-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_q_k [hPre_finite_q_k : Cert.Pre_finite_q_k.Facts] (m : (ℓ : Loc Cert.KernelIdeal.nD Cert.KernelIdeal.τ Cert.KernelIdeal.sig) → Buf (Elt Ideal) ℓ) : Prop :=
  ∀ c : Dev Cert.KernelIdeal.nD,
    (Cert.Pre_finite_q_k.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_q_k [hPre_finite_q_k : Cert.Pre_finite_q_k.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_q_k.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_FirstMlp (m : (ℓ : Loc Cert.FirstMlp.nD Cert.FirstMlp.τ Cert.FirstMlp.sig) → Buf (Elt Bits) ℓ) : Prop :=
  True

def Pre_FirstMlpIdeal (m : (ℓ : Loc Cert.FirstMlpIdeal.nD Cert.FirstMlpIdeal.τ Cert.FirstMlpIdeal.sig) → Buf (Elt Ideal) ℓ) : Prop :=
  True

def Pre_FirstMlpReferenceIdeal (m : (ℓ : Loc Cert.FirstMlpReferenceIdeal.nD Cert.FirstMlpReferenceIdeal.τ Cert.FirstMlpReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxReferenceIdeal (m : (ℓ : Loc Cert.CtxReferenceIdeal.nD Cert.CtxReferenceIdeal.τ Cert.CtxReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_q_k [hKernelIdeal : Cert.KernelIdeal.Facts] [hPre_finite_q_k : Cert.Pre_finite_q_k.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_q_k m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_q_k [hReferenceIdeal : Cert.ReferenceIdeal.Facts] [hPre_finite_q_k : Cert.Pre_finite_q_k.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_q_k m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5))
      ∧ r.2.sem = fun _ => 0)

def quiescent_FirstMlp [hFirstMlp : Cert.FirstMlp.Facts] : Prop :=
  ∀ (m : (ℓ : Loc Cert.FirstMlp.nD Cert.FirstMlp.τ Cert.FirstMlp.sig) → Buf (Elt Bits) ℓ) (g : Dev Cert.FirstMlp.nD → PrngReg), Pre_FirstMlp m →
    θ_run (Cert.FirstMlp.defs (F := Bits)) (onTc (τ := Cert.FirstMlp.τ) (Cert.FirstMlp.main (F := Bits))) ⟨m, fun _ => 0, g⟩ (fun r => (∀ c : Dev Cert.FirstMlp.nD,
      r.2.mem ((c.tc : Thread Cert.FirstMlp.nD Cert.FirstMlp.τ).loc Cert.FirstMlp.main_arg0) = m ((c.tc : Thread Cert.FirstMlp.nD Cert.FirstMlp.τ).loc Cert.FirstMlp.main_arg0)
      ∧ r.2.mem ((c.tc : Thread Cert.FirstMlp.nD Cert.FirstMlp.τ).loc Cert.FirstMlp.main_arg1) = m ((c.tc : Thread Cert.FirstMlp.nD Cert.FirstMlp.τ).loc Cert.FirstMlp.main_arg1)
      ∧ r.2.mem ((c.tc : Thread Cert.FirstMlp.nD Cert.FirstMlp.τ).loc Cert.FirstMlp.main_arg2) = m ((c.tc : Thread Cert.FirstMlp.nD Cert.FirstMlp.τ).loc Cert.FirstMlp.main_arg2)
      ∧ r.2.mem ((c.tc : Thread Cert.FirstMlp.nD Cert.FirstMlp.τ).loc Cert.FirstMlp.main_arg3) = m ((c.tc : Thread Cert.FirstMlp.nD Cert.FirstMlp.τ).loc Cert.FirstMlp.main_arg3)
      ∧ r.2.mem ((c.tc : Thread Cert.FirstMlp.nD Cert.FirstMlp.τ).loc Cert.FirstMlp.main_arg4) = m ((c.tc : Thread Cert.FirstMlp.nD Cert.FirstMlp.τ).loc Cert.FirstMlp.main_arg4))
      ∧ r.2.sem = fun _ => 0)

def quiescent_FirstMlpIdeal [hFirstMlpIdeal : Cert.FirstMlpIdeal.Facts] : Prop :=
  ∀ (m : (ℓ : Loc Cert.FirstMlpIdeal.nD Cert.FirstMlpIdeal.τ Cert.FirstMlpIdeal.sig) → Buf (Elt Ideal) ℓ) (g : Dev Cert.FirstMlpIdeal.nD → PrngReg), Pre_FirstMlpIdeal m →
    θ_run (Cert.FirstMlpIdeal.defs (F := Ideal)) (onTc (τ := Cert.FirstMlpIdeal.τ) (Cert.FirstMlpIdeal.main (F := Ideal))) ⟨m, fun _ => 0, g⟩ (fun r => (∀ c : Dev Cert.FirstMlpIdeal.nD,
      r.2.mem ((c.tc : Thread Cert.FirstMlpIdeal.nD Cert.FirstMlpIdeal.τ).loc Cert.FirstMlpIdeal.main_arg0) = m ((c.tc : Thread Cert.FirstMlpIdeal.nD Cert.FirstMlpIdeal.τ).loc Cert.FirstMlpIdeal.main_arg0)
      ∧ r.2.mem ((c.tc : Thread Cert.FirstMlpIdeal.nD Cert.FirstMlpIdeal.τ).loc Cert.FirstMlpIdeal.main_arg1) = m ((c.tc : Thread Cert.FirstMlpIdeal.nD Cert.FirstMlpIdeal.τ).loc Cert.FirstMlpIdeal.main_arg1)
      ∧ r.2.mem ((c.tc : Thread Cert.FirstMlpIdeal.nD Cert.FirstMlpIdeal.τ).loc Cert.FirstMlpIdeal.main_arg2) = m ((c.tc : Thread Cert.FirstMlpIdeal.nD Cert.FirstMlpIdeal.τ).loc Cert.FirstMlpIdeal.main_arg2)
      ∧ r.2.mem ((c.tc : Thread Cert.FirstMlpIdeal.nD Cert.FirstMlpIdeal.τ).loc Cert.FirstMlpIdeal.main_arg3) = m ((c.tc : Thread Cert.FirstMlpIdeal.nD Cert.FirstMlpIdeal.τ).loc Cert.FirstMlpIdeal.main_arg3)
      ∧ r.2.mem ((c.tc : Thread Cert.FirstMlpIdeal.nD Cert.FirstMlpIdeal.τ).loc Cert.FirstMlpIdeal.main_arg4) = m ((c.tc : Thread Cert.FirstMlpIdeal.nD Cert.FirstMlpIdeal.τ).loc Cert.FirstMlpIdeal.main_arg4))
      ∧ r.2.sem = fun _ => 0)

def quiescent_FirstMlpReferenceIdeal [hFirstMlpReferenceIdeal : Cert.FirstMlpReferenceIdeal.Facts] : Prop :=
  ∀ (m : (ℓ : Loc Cert.FirstMlpReferenceIdeal.nD Cert.FirstMlpReferenceIdeal.τ Cert.FirstMlpReferenceIdeal.sig) → Buf (Elt Ideal) ℓ) (g : Dev Cert.FirstMlpReferenceIdeal.nD → PrngReg), Pre_FirstMlpReferenceIdeal m →
    θ_run (Cert.FirstMlpReferenceIdeal.defs (F := Ideal)) (onTc (τ := Cert.FirstMlpReferenceIdeal.τ) (Cert.FirstMlpReferenceIdeal.main (F := Ideal))) ⟨m, fun _ => 0, g⟩ (fun r => (∀ c : Dev Cert.FirstMlpReferenceIdeal.nD,
      r.2.mem ((c.tc : Thread Cert.FirstMlpReferenceIdeal.nD Cert.FirstMlpReferenceIdeal.τ).loc Cert.FirstMlpReferenceIdeal.main_arg0) = m ((c.tc : Thread Cert.FirstMlpReferenceIdeal.nD Cert.FirstMlpReferenceIdeal.τ).loc Cert.FirstMlpReferenceIdeal.main_arg0)
      ∧ r.2.mem ((c.tc : Thread Cert.FirstMlpReferenceIdeal.nD Cert.FirstMlpReferenceIdeal.τ).loc Cert.FirstMlpReferenceIdeal.main_arg1) = m ((c.tc : Thread Cert.FirstMlpReferenceIdeal.nD Cert.FirstMlpReferenceIdeal.τ).loc Cert.FirstMlpReferenceIdeal.main_arg1)
      ∧ r.2.mem ((c.tc : Thread Cert.FirstMlpReferenceIdeal.nD Cert.FirstMlpReferenceIdeal.τ).loc Cert.FirstMlpReferenceIdeal.main_arg2) = m ((c.tc : Thread Cert.FirstMlpReferenceIdeal.nD Cert.FirstMlpReferenceIdeal.τ).loc Cert.FirstMlpReferenceIdeal.main_arg2)
      ∧ r.2.mem ((c.tc : Thread Cert.FirstMlpReferenceIdeal.nD Cert.FirstMlpReferenceIdeal.τ).loc Cert.FirstMlpReferenceIdeal.main_arg3) = m ((c.tc : Thread Cert.FirstMlpReferenceIdeal.nD Cert.FirstMlpReferenceIdeal.τ).loc Cert.FirstMlpReferenceIdeal.main_arg3)
      ∧ r.2.mem ((c.tc : Thread Cert.FirstMlpReferenceIdeal.nD Cert.FirstMlpReferenceIdeal.τ).loc Cert.FirstMlpReferenceIdeal.main_arg4) = m ((c.tc : Thread Cert.FirstMlpReferenceIdeal.nD Cert.FirstMlpReferenceIdeal.τ).loc Cert.FirstMlpReferenceIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2)
      ∧ r.2.mem ((c.tc : Thread Cert.Ctx.nD Cert.Ctx.τ).loc Cert.Ctx.main_arg3) = m ((c.tc : Thread Cert.Ctx.nD Cert.Ctx.τ).loc Cert.Ctx.main_arg3)
      ∧ r.2.mem ((c.tc : Thread Cert.Ctx.nD Cert.Ctx.τ).loc Cert.Ctx.main_arg4) = m ((c.tc : Thread Cert.Ctx.nD Cert.Ctx.τ).loc Cert.Ctx.main_arg4))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4))
      ∧ r.2.sem = fun _ => 0)

def quiescent_CtxReferenceIdeal [hCtxReferenceIdeal : Cert.CtxReferenceIdeal.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2)
      ∧ r.2.mem ((c.tc : Thread Cert.CtxReferenceIdeal.nD Cert.CtxReferenceIdeal.τ).loc Cert.CtxReferenceIdeal.main_arg3) = m ((c.tc : Thread Cert.CtxReferenceIdeal.nD Cert.CtxReferenceIdeal.τ).loc Cert.CtxReferenceIdeal.main_arg3)
      ∧ r.2.mem ((c.tc : Thread Cert.CtxReferenceIdeal.nD Cert.CtxReferenceIdeal.τ).loc Cert.CtxReferenceIdeal.main_arg4) = m ((c.tc : Thread Cert.CtxReferenceIdeal.nD Cert.CtxReferenceIdeal.τ).loc Cert.CtxReferenceIdeal.main_arg4))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2)
      ∧ r.2.mem ((c.tc : Thread Cert.Modulation.nD Cert.Modulation.τ).loc Cert.Modulation.main_arg3) = m ((c.tc : Thread Cert.Modulation.nD Cert.Modulation.τ).loc Cert.Modulation.main_arg3))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2)
      ∧ r.2.mem ((c.tc : Thread Cert.ModulationReferenceIdeal.nD Cert.ModulationReferenceIdeal.τ).loc Cert.ModulationReferenceIdeal.main_arg3) = m ((c.tc : Thread Cert.ModulationReferenceIdeal.nD Cert.ModulationReferenceIdeal.τ).loc Cert.ModulationReferenceIdeal.main_arg3))
      ∧ r.2.sem = fun _ => 0)

def preserves_Kernel_KernelIdeal : Prop :=
  True

def algebraic_KernelIdeal_ReferenceIdeal_pre_finite_q_k [hKernelIdeal : Cert.KernelIdeal.Facts] [hReferenceIdeal : Cert.ReferenceIdeal.Facts] [hPre_finite_q_k : Cert.Pre_finite_q_k.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_q_k m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)) (v3 : (c : Dev Cert.KernelIdeal.nD) → Buf (Elt Ideal) ((c.tc : Thread Cert.KernelIdeal.nD Cert.KernelIdeal.τ).loc Cert.KernelIdeal.main_v26_3)) (v4 : (c : Dev Cert.KernelIdeal.nD) → Buf (Elt Ideal) ((c.tc : Thread Cert.KernelIdeal.nD Cert.KernelIdeal.τ).loc Cert.KernelIdeal.main_v26_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_v26_3) = v3 c
          ∧ r.2.mem ((c.tc : Thread Cert.KernelIdeal.nD Cert.KernelIdeal.τ).loc Cert.KernelIdeal.main_v26_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_v32) = v3 c
          ∧ r.2.mem ((c.tc : Thread Cert.ReferenceIdeal.nD Cert.ReferenceIdeal.τ).loc Cert.ReferenceIdeal.main_v34) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v33) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5))

def preserves_FirstMlp_FirstMlpIdeal : Prop :=
  True

def algebraic_FirstMlpIdeal_FirstMlpReferenceIdeal [hFirstMlpIdeal : Cert.FirstMlpIdeal.Facts] [hFirstMlpReferenceIdeal : Cert.FirstMlpReferenceIdeal.Facts] : Prop :=
  ∀ (m : (ℓ : Loc Cert.FirstMlpIdeal.nD Cert.FirstMlpIdeal.τ Cert.FirstMlpIdeal.sig) → Buf (Elt Ideal) ℓ) (g : Dev Cert.FirstMlpIdeal.nD → PrngReg)
    (m' : (ℓ : Loc Cert.FirstMlpReferenceIdeal.nD Cert.FirstMlpReferenceIdeal.τ Cert.FirstMlpReferenceIdeal.sig) → Buf (Elt Ideal) ℓ) (g' : Dev Cert.FirstMlpReferenceIdeal.nD → PrngReg), Pre_FirstMlpIdeal m →
    (∀ c : Dev Cert.FirstMlpIdeal.nD,
      m' ((c.tc : Thread Cert.FirstMlpReferenceIdeal.nD Cert.FirstMlpReferenceIdeal.τ).loc Cert.FirstMlpReferenceIdeal.main_arg0) = m ((c.tc : Thread Cert.FirstMlpIdeal.nD Cert.FirstMlpIdeal.τ).loc Cert.FirstMlpIdeal.main_arg0)
      ∧ m' ((c.tc : Thread Cert.FirstMlpReferenceIdeal.nD Cert.FirstMlpReferenceIdeal.τ).loc Cert.FirstMlpReferenceIdeal.main_arg1) = m ((c.tc : Thread Cert.FirstMlpIdeal.nD Cert.FirstMlpIdeal.τ).loc Cert.FirstMlpIdeal.main_arg1)
      ∧ m' ((c.tc : Thread Cert.FirstMlpReferenceIdeal.nD Cert.FirstMlpReferenceIdeal.τ).loc Cert.FirstMlpReferenceIdeal.main_arg2) = m ((c.tc : Thread Cert.FirstMlpIdeal.nD Cert.FirstMlpIdeal.τ).loc Cert.FirstMlpIdeal.main_arg2)
      ∧ m' ((c.tc : Thread Cert.FirstMlpReferenceIdeal.nD Cert.FirstMlpReferenceIdeal.τ).loc Cert.FirstMlpReferenceIdeal.main_arg3) = m ((c.tc : Thread Cert.FirstMlpIdeal.nD Cert.FirstMlpIdeal.τ).loc Cert.FirstMlpIdeal.main_arg3)
      ∧ m' ((c.tc : Thread Cert.FirstMlpReferenceIdeal.nD Cert.FirstMlpReferenceIdeal.τ).loc Cert.FirstMlpReferenceIdeal.main_arg4) = m ((c.tc : Thread Cert.FirstMlpIdeal.nD Cert.FirstMlpIdeal.τ).loc Cert.FirstMlpIdeal.main_arg4)) →
    ∃ (v0 : (c : Dev Cert.FirstMlpIdeal.nD) → Buf (Elt Ideal) ((c.tc : Thread Cert.FirstMlpIdeal.nD Cert.FirstMlpIdeal.τ).loc Cert.FirstMlpIdeal.main_v4_0)) (v1 : (c : Dev Cert.FirstMlpIdeal.nD) → Buf (Elt Ideal) ((c.tc : Thread Cert.FirstMlpIdeal.nD Cert.FirstMlpIdeal.τ).loc Cert.FirstMlpIdeal.main_v4_1)),
      θ_run (Cert.FirstMlpIdeal.defs (F := Ideal)) (onTc (τ := Cert.FirstMlpIdeal.τ) (Cert.FirstMlpIdeal.main (F := Ideal))) ⟨m, fun _ => 0, g⟩ (fun r => ∀ c : Dev Cert.FirstMlpIdeal.nD,
          r.2.mem ((c.tc : Thread Cert.FirstMlpIdeal.nD Cert.FirstMlpIdeal.τ).loc Cert.FirstMlpIdeal.main_v4_0) = v0 c
          ∧ r.2.mem ((c.tc : Thread Cert.FirstMlpIdeal.nD Cert.FirstMlpIdeal.τ).loc Cert.FirstMlpIdeal.main_v4_1) = v1 c
          ∧ r.2.mem ((c.tc : Thread Cert.FirstMlpIdeal.nD Cert.FirstMlpIdeal.τ).loc Cert.FirstMlpIdeal.main_arg0) = m ((c.tc : Thread Cert.FirstMlpIdeal.nD Cert.FirstMlpIdeal.τ).loc Cert.FirstMlpIdeal.main_arg0)
          ∧ r.2.mem ((c.tc : Thread Cert.FirstMlpIdeal.nD Cert.FirstMlpIdeal.τ).loc Cert.FirstMlpIdeal.main_arg1) = m ((c.tc : Thread Cert.FirstMlpIdeal.nD Cert.FirstMlpIdeal.τ).loc Cert.FirstMlpIdeal.main_arg1)
          ∧ r.2.mem ((c.tc : Thread Cert.FirstMlpIdeal.nD Cert.FirstMlpIdeal.τ).loc Cert.FirstMlpIdeal.main_arg2) = m ((c.tc : Thread Cert.FirstMlpIdeal.nD Cert.FirstMlpIdeal.τ).loc Cert.FirstMlpIdeal.main_arg2)
          ∧ r.2.mem ((c.tc : Thread Cert.FirstMlpIdeal.nD Cert.FirstMlpIdeal.τ).loc Cert.FirstMlpIdeal.main_arg3) = m ((c.tc : Thread Cert.FirstMlpIdeal.nD Cert.FirstMlpIdeal.τ).loc Cert.FirstMlpIdeal.main_arg3)
          ∧ r.2.mem ((c.tc : Thread Cert.FirstMlpIdeal.nD Cert.FirstMlpIdeal.τ).loc Cert.FirstMlpIdeal.main_arg4) = m ((c.tc : Thread Cert.FirstMlpIdeal.nD Cert.FirstMlpIdeal.τ).loc Cert.FirstMlpIdeal.main_arg4))
      ∧ θ_run (Cert.FirstMlpReferenceIdeal.defs (F := Ideal)) (onTc (τ := Cert.FirstMlpReferenceIdeal.τ) (Cert.FirstMlpReferenceIdeal.main (F := Ideal))) ⟨m', fun _ => 0, g'⟩ (fun r => ∀ c : Dev Cert.FirstMlpReferenceIdeal.nD,
          r.2.mem ((c.tc : Thread Cert.FirstMlpReferenceIdeal.nD Cert.FirstMlpReferenceIdeal.τ).loc Cert.FirstMlpReferenceIdeal.main_v20) = v0 c
          ∧ r.2.mem ((c.tc : Thread Cert.FirstMlpReferenceIdeal.nD Cert.FirstMlpReferenceIdeal.τ).loc Cert.FirstMlpReferenceIdeal.main_v29) = v1 c
          ∧ r.2.mem ((c.tc : Thread Cert.FirstMlpReferenceIdeal.nD Cert.FirstMlpReferenceIdeal.τ).loc Cert.FirstMlpReferenceIdeal.main_arg0) = m' ((c.tc : Thread Cert.FirstMlpReferenceIdeal.nD Cert.FirstMlpReferenceIdeal.τ).loc Cert.FirstMlpReferenceIdeal.main_arg0)
          ∧ r.2.mem ((c.tc : Thread Cert.FirstMlpReferenceIdeal.nD Cert.FirstMlpReferenceIdeal.τ).loc Cert.FirstMlpReferenceIdeal.main_arg1) = m' ((c.tc : Thread Cert.FirstMlpReferenceIdeal.nD Cert.FirstMlpReferenceIdeal.τ).loc Cert.FirstMlpReferenceIdeal.main_arg1)
          ∧ r.2.mem ((c.tc : Thread Cert.FirstMlpReferenceIdeal.nD Cert.FirstMlpReferenceIdeal.τ).loc Cert.FirstMlpReferenceIdeal.main_arg2) = m' ((c.tc : Thread Cert.FirstMlpReferenceIdeal.nD Cert.FirstMlpReferenceIdeal.τ).loc Cert.FirstMlpReferenceIdeal.main_arg2)
          ∧ r.2.mem ((c.tc : Thread Cert.FirstMlpReferenceIdeal.nD Cert.FirstMlpReferenceIdeal.τ).loc Cert.FirstMlpReferenceIdeal.main_arg3) = m' ((c.tc : Thread Cert.FirstMlpReferenceIdeal.nD Cert.FirstMlpReferenceIdeal.τ).loc Cert.FirstMlpReferenceIdeal.main_arg3)
          ∧ r.2.mem ((c.tc : Thread Cert.FirstMlpReferenceIdeal.nD Cert.FirstMlpReferenceIdeal.τ).loc Cert.FirstMlpReferenceIdeal.main_arg4) = m' ((c.tc : Thread Cert.FirstMlpReferenceIdeal.nD Cert.FirstMlpReferenceIdeal.τ).loc Cert.FirstMlpReferenceIdeal.main_arg4))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v5_0)) (v1 : (c : Dev Cert.OutIdeal.nD) → Buf (Elt Ideal) ((c.tc : Thread Cert.OutIdeal.nD Cert.OutIdeal.τ).loc Cert.OutIdeal.main_v5_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5_0) = v0 c
          ∧ r.2.mem ((c.tc : Thread Cert.OutIdeal.nD Cert.OutIdeal.τ).loc Cert.OutIdeal.main_v5_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v13) = v0 c
          ∧ r.2.mem ((c.tc : Thread Cert.OutReferenceIdeal.nD Cert.OutReferenceIdeal.τ).loc Cert.OutReferenceIdeal.main_v35) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_Ctx_CtxIdeal : Prop :=
  True

def algebraic_CtxIdeal_CtxReferenceIdeal [hCtxIdeal : Cert.CtxIdeal.Facts] [hCtxReferenceIdeal : Cert.CtxReferenceIdeal.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxReferenceIdeal.nD Cert.CtxReferenceIdeal.τ Cert.CtxReferenceIdeal.sig) → Buf (Elt Ideal) ℓ) (g' : Dev Cert.CtxReferenceIdeal.nD → PrngReg), Pre_CtxIdeal m →
    (∀ c : Dev Cert.CtxIdeal.nD,
      m' ((c.tc : Thread Cert.CtxReferenceIdeal.nD Cert.CtxReferenceIdeal.τ).loc Cert.CtxReferenceIdeal.main_arg0) = m ((c.tc : Thread Cert.CtxIdeal.nD Cert.CtxIdeal.τ).loc Cert.CtxIdeal.main_arg0)
      ∧ m' ((c.tc : Thread Cert.CtxReferenceIdeal.nD Cert.CtxReferenceIdeal.τ).loc Cert.CtxReferenceIdeal.main_arg1) = m ((c.tc : Thread Cert.CtxIdeal.nD Cert.CtxIdeal.τ).loc Cert.CtxIdeal.main_arg1)
      ∧ m' ((c.tc : Thread Cert.CtxReferenceIdeal.nD Cert.CtxReferenceIdeal.τ).loc Cert.CtxReferenceIdeal.main_arg2) = m ((c.tc : Thread Cert.CtxIdeal.nD Cert.CtxIdeal.τ).loc Cert.CtxIdeal.main_arg2)
      ∧ m' ((c.tc : Thread Cert.CtxReferenceIdeal.nD Cert.CtxReferenceIdeal.τ).loc Cert.CtxReferenceIdeal.main_arg3) = m ((c.tc : Thread Cert.CtxIdeal.nD Cert.CtxIdeal.τ).loc Cert.CtxIdeal.main_arg3)
      ∧ m' ((c.tc : Thread Cert.CtxReferenceIdeal.nD Cert.CtxReferenceIdeal.τ).loc Cert.CtxReferenceIdeal.main_arg4) = m ((c.tc : Thread Cert.CtxIdeal.nD Cert.CtxIdeal.τ).loc Cert.CtxIdeal.main_arg4)) →
    ∃ (v0 : (c : Dev Cert.CtxIdeal.nD) → Buf (Elt Ideal) ((c.tc : Thread Cert.CtxIdeal.nD Cert.CtxIdeal.τ).loc Cert.CtxIdeal.main_v6_0)) (v1 : (c : Dev Cert.CtxIdeal.nD) → Buf (Elt Ideal) ((c.tc : Thread Cert.CtxIdeal.nD Cert.CtxIdeal.τ).loc Cert.CtxIdeal.main_v6_1)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v6_0) = v0 c
          ∧ r.2.mem ((c.tc : Thread Cert.CtxIdeal.nD Cert.CtxIdeal.τ).loc Cert.CtxIdeal.main_v6_1) = v1 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
          ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
          ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4))
      ∧ θ_run (Cert.CtxReferenceIdeal.defs (F := Ideal)) (onTc (τ := Cert.CtxReferenceIdeal.τ) (Cert.CtxReferenceIdeal.main (F := Ideal))) ⟨m', fun _ => 0, g'⟩ (fun r => ∀ c : Dev Cert.CtxReferenceIdeal.nD,
          r.2.mem ((c.tc : Thread Cert.CtxReferenceIdeal.nD Cert.CtxReferenceIdeal.τ).loc Cert.CtxReferenceIdeal.main_v54) = v0 c
          ∧ r.2.mem ((c.tc : Thread Cert.CtxReferenceIdeal.nD Cert.CtxReferenceIdeal.τ).loc Cert.CtxReferenceIdeal.main_v57) = v1 c
          ∧ r.2.mem ((c.tc : Thread Cert.CtxReferenceIdeal.nD Cert.CtxReferenceIdeal.τ).loc Cert.CtxReferenceIdeal.main_arg0) = m' ((c.tc : Thread Cert.CtxReferenceIdeal.nD Cert.CtxReferenceIdeal.τ).loc Cert.CtxReferenceIdeal.main_arg0)
          ∧ r.2.mem ((c.tc : Thread Cert.CtxReferenceIdeal.nD Cert.CtxReferenceIdeal.τ).loc Cert.CtxReferenceIdeal.main_arg1) = m' ((c.tc : Thread Cert.CtxReferenceIdeal.nD Cert.CtxReferenceIdeal.τ).loc Cert.CtxReferenceIdeal.main_arg1)
          ∧ r.2.mem ((c.tc : Thread Cert.CtxReferenceIdeal.nD Cert.CtxReferenceIdeal.τ).loc Cert.CtxReferenceIdeal.main_arg2) = m' ((c.tc : Thread Cert.CtxReferenceIdeal.nD Cert.CtxReferenceIdeal.τ).loc Cert.CtxReferenceIdeal.main_arg2)
          ∧ r.2.mem ((c.tc : Thread Cert.CtxReferenceIdeal.nD Cert.CtxReferenceIdeal.τ).loc Cert.CtxReferenceIdeal.main_arg3) = m' ((c.tc : Thread Cert.CtxReferenceIdeal.nD Cert.CtxReferenceIdeal.τ).loc Cert.CtxReferenceIdeal.main_arg3)
          ∧ r.2.mem ((c.tc : Thread Cert.CtxReferenceIdeal.nD Cert.CtxReferenceIdeal.τ).loc Cert.CtxReferenceIdeal.main_arg4) = m' ((c.tc : Thread Cert.CtxReferenceIdeal.nD Cert.CtxReferenceIdeal.τ).loc Cert.CtxReferenceIdeal.main_arg4))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)
      ∧ m' ((c.tc : Thread Cert.ModulationReferenceIdeal.nD Cert.ModulationReferenceIdeal.τ).loc Cert.ModulationReferenceIdeal.main_arg3) = m ((c.tc : Thread Cert.ModulationIdeal.nD Cert.ModulationIdeal.τ).loc Cert.ModulationIdeal.main_arg3)) →
    ∃ (v0 : (c : Dev Cert.ModulationIdeal.nD) → Buf (Elt Ideal) ((c.tc : Thread Cert.ModulationIdeal.nD Cert.ModulationIdeal.τ).loc Cert.ModulationIdeal.main_v5)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v5) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
          ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v22) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2)
          ∧ r.2.mem ((c.tc : Thread Cert.ModulationReferenceIdeal.nD Cert.ModulationReferenceIdeal.τ).loc Cert.ModulationReferenceIdeal.main_arg3) = m' ((c.tc : Thread Cert.ModulationReferenceIdeal.nD Cert.ModulationReferenceIdeal.τ).loc Cert.ModulationReferenceIdeal.main_arg3))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hFirstMlp : Cert.FirstMlp.Facts) (hFirstMlpIdeal : Cert.FirstMlpIdeal.Facts) (hFirstMlpReferenceIdeal : Cert.FirstMlpReferenceIdeal.Facts) (hOut : Cert.Out.Facts) (hOutIdeal : Cert.OutIdeal.Facts) (hOutReferenceIdeal : Cert.OutReferenceIdeal.Facts) (hCtx : Cert.Ctx.Facts) (hCtxIdeal : Cert.CtxIdeal.Facts) (hCtxReferenceIdeal : Cert.CtxReferenceIdeal.Facts) (hModulation : Cert.Modulation.Facts) (hModulationIdeal : Cert.ModulationIdeal.Facts) (hModulationReferenceIdeal : Cert.ModulationReferenceIdeal.Facts) (hPre_finite_q_k : Cert.Pre_finite_q_k.Facts),
    quiescent_Kernel (hKernel := hKernel)
    ∧ quiescent_KernelIdeal (hKernelIdeal := hKernelIdeal)
    ∧ quiescent_KernelIdeal_pre_finite_q_k (hKernelIdeal := hKernelIdeal) (hPre_finite_q_k := hPre_finite_q_k)
    ∧ quiescent_ReferenceIdeal (hReferenceIdeal := hReferenceIdeal)
    ∧ quiescent_ReferenceIdeal_pre_finite_q_k (hReferenceIdeal := hReferenceIdeal) (hPre_finite_q_k := hPre_finite_q_k)
    ∧ quiescent_Mlp (hMlp := hMlp)
    ∧ quiescent_MlpIdeal (hMlpIdeal := hMlpIdeal)
    ∧ quiescent_MlpReferenceIdeal (hMlpReferenceIdeal := hMlpReferenceIdeal)
    ∧ quiescent_FirstMlp (hFirstMlp := hFirstMlp)
    ∧ quiescent_FirstMlpIdeal (hFirstMlpIdeal := hFirstMlpIdeal)
    ∧ quiescent_FirstMlpReferenceIdeal (hFirstMlpReferenceIdeal := hFirstMlpReferenceIdeal)
    ∧ quiescent_Out (hOut := hOut)
    ∧ quiescent_OutIdeal (hOutIdeal := hOutIdeal)
    ∧ quiescent_OutReferenceIdeal (hOutReferenceIdeal := hOutReferenceIdeal)
    ∧ quiescent_Ctx (hCtx := hCtx)
    ∧ quiescent_CtxIdeal (hCtxIdeal := hCtxIdeal)
    ∧ quiescent_CtxReferenceIdeal (hCtxReferenceIdeal := hCtxReferenceIdeal)
    ∧ quiescent_Modulation (hModulation := hModulation)
    ∧ quiescent_ModulationIdeal (hModulationIdeal := hModulationIdeal)
    ∧ quiescent_ModulationReferenceIdeal (hModulationReferenceIdeal := hModulationReferenceIdeal)
    ∧ preserves_Kernel_KernelIdeal
    ∧ algebraic_KernelIdeal_ReferenceIdeal_pre_finite_q_k (hKernelIdeal := hKernelIdeal) (hReferenceIdeal := hReferenceIdeal) (hPre_finite_q_k := hPre_finite_q_k)
    ∧ preserves_Mlp_MlpIdeal
    ∧ algebraic_MlpIdeal_MlpReferenceIdeal (hMlpIdeal := hMlpIdeal) (hMlpReferenceIdeal := hMlpReferenceIdeal)
    ∧ preserves_FirstMlp_FirstMlpIdeal
    ∧ algebraic_FirstMlpIdeal_FirstMlpReferenceIdeal (hFirstMlpIdeal := hFirstMlpIdeal) (hFirstMlpReferenceIdeal := hFirstMlpReferenceIdeal)
    ∧ preserves_Out_OutIdeal
    ∧ algebraic_OutIdeal_OutReferenceIdeal (hOutIdeal := hOutIdeal) (hOutReferenceIdeal := hOutReferenceIdeal)
    ∧ preserves_Ctx_CtxIdeal
    ∧ algebraic_CtxIdeal_CtxReferenceIdeal (hCtxIdeal := hCtxIdeal) (hCtxReferenceIdeal := hCtxReferenceIdeal)
    ∧ preserves_Modulation_ModulationIdeal
    ∧ algebraic_ModulationIdeal_ModulationReferenceIdeal (hModulationIdeal := hModulationIdeal) (hModulationReferenceIdeal := hModulationReferenceIdeal)
-- ==== Pre_finite_q_k.lean ====
abbrev S4x4096x16x128 : Shape := ⟨4, ![4, 4096, 16, 128]⟩
abbrev S4x4096x4x128 : Shape := ⟨4, ![4, 4096, 4, 128]⟩
abbrev S4x256x4x128 : Shape := ⟨4, ![4, 256, 4, 128]⟩
abbrev S1x2048x2048 : Shape := ⟨3, ![1, 2048, 2048]⟩
abbrev S2x2048x8192 : Shape := ⟨3, ![2, 2048, 8192]⟩
abbrev S2x8192x2048 : Shape := ⟨3, ![2, 8192, 2048]⟩
abbrev S_ : Shape := ⟨0, ![]⟩

class Facts : Prop where
  bcast_S_S4x4096x16x128 : S_.BroadcastsInDim S4x4096x16x128 (![] : Fin 0 → Fin S4x4096x16x128.rank)
  reducesTo_S4x4096x16x128_S_d0_1_2_3 : S4x4096x16x128.ReducesTo [0, 1, 2, 3] S_
  h_S_ : 0 < S_.numel
  bcast_S_S4x4096x4x128 : S_.BroadcastsInDim S4x4096x4x128 (![] : Fin 0 → Fin S4x4096x4x128.rank)
  reducesTo_S4x4096x4x128_S_d0_1_2_3 : S4x4096x4x128.ReducesTo [0, 1, 2, 3] S_
  bcast_S_S4x256x4x128 : S_.BroadcastsInDim S4x256x4x128 (![] : Fin 0 → Fin S4x256x4x128.rank)
  reducesTo_S4x256x4x128_S_d0_1_2_3 : S4x256x4x128.ReducesTo [0, 1, 2, 3] S_

variable [Facts]

def fn {F : FTy → Type} [FloatOps F] (main_arg0 : FVec F S4x4096x16x128 .f32) (main_arg1 : FVec F S4x4096x4x128 .f32) (main_arg2 : FVec F S4x4096x4x128 .f32) (main_arg3 : FVec F S4x256x4x128 .f32) (main_arg4 : FVec F S4x256x4x128 .f32) (main_arg5 : FVec F S1x2048x2048 .f32) (main_arg6 : FVec F S1x2048x2048 .f32) (main_arg7 : FVec F S2x2048x8192 .f32) (main_arg8 : FVec F S2x8192x2048 .f32) : IVec S_ 1 :=
  let main_v0 : FVec F S4x4096x16x128 .f32 := Host.absf main_arg0
  let main_cst : FVec F S_ .f32 := constant S_ .f32 0x7F800000#32
  let main_v1 : FVec F S4x4096x16x128 .f32 := broadcastInDim S4x4096x16x128 ![] bcast_S_S4x4096x16x128 main_cst
  let main_v2 : IVec S4x4096x16x128 1 := cmpf .olt main_v0 main_v1
  let main_c : IVec S_ 1 := constantI S_ 1 1#1
  let main_v3 : IVec S_ 1 := (fun x v => Host.reduce IntOp.andi x v reducesTo_S4x4096x16x128_S_d0_1_2_3 h_S_) main_v2 main_c
  let main_v4 : FVec F S4x4096x4x128 .f32 := Host.absf main_arg1
  let main_cst_0 : FVec F S_ .f32 := constant S_ .f32 0x7F800000#32
  let main_v5 : FVec F S4x4096x4x128 .f32 := broadcastInDim S4x4096x4x128 ![] bcast_S_S4x4096x4x128 main_cst_0
  let main_v6 : IVec S4x4096x4x128 1 := cmpf .olt main_v4 main_v5
  let main_c_1 : IVec S_ 1 := constantI S_ 1 1#1
  let main_v7 : IVec S_ 1 := (fun x v => Host.reduce IntOp.andi x v reducesTo_S4x4096x4x128_S_d0_1_2_3 h_S_) main_v6 main_c_1
  let main_v8 : IVec S_ 1 := andi main_v3 main_v7
  let main_v9 : FVec F S4x256x4x128 .f32 := Host.absf main_arg3
  let main_cst_2 : FVec F S_ .f32 := constant S_ .f32 0x7F800000#32
  let main_v10 : FVec F S4x256x4x128 .f32 := broadcastInDim S4x256x4x128 ![] bcast_S_S4x256x4x128 main_cst_2
  let main_v11 : IVec S4x256x4x128 1 := cmpf .olt main_v9 main_v10
  let main_c_3 : IVec S_ 1 := constantI S_ 1 1#1
  let main_v12 : IVec S_ 1 := (fun x v => Host.reduce IntOp.andi x v reducesTo_S4x256x4x128_S_d0_1_2_3 h_S_) main_v11 main_c_3
  let main_v13 : IVec S_ 1 := andi main_v8 main_v12
  main_v13
-- ==== Kernel.lean ====
abbrev S4x4096x16x128 : Shape := ⟨4, ![4, 4096, 16, 128]⟩
abbrev S4x4096x4x128 : Shape := ⟨4, ![4, 4096, 4, 128]⟩
abbrev S4x256x4x128 : Shape := ⟨4, ![4, 256, 4, 128]⟩
abbrev S1x2048x2048 : Shape := ⟨3, ![1, 2048, 2048]⟩
abbrev S2x2048x8192 : Shape := ⟨3, ![2, 2048, 8192]⟩
abbrev S2x8192x2048 : Shape := ⟨3, ![2, 8192, 2048]⟩
abbrev S_ : Shape := ⟨0, ![]⟩
abbrev S4x16x4096x128 : Shape := ⟨4, ![4, 16, 4096, 128]⟩
abbrev S4x4x4096x128 : Shape := ⟨4, ![4, 4, 4096, 128]⟩
abbrev S4x4x256x128 : Shape := ⟨4, ![4, 4, 256, 128]⟩
abbrev S4x4x4096x256 : Shape := ⟨4, ![4, 4, 4096, 256]⟩
abbrev S4x4x256x256 : Shape := ⟨4, ![4, 4, 256, 256]⟩
abbrev S2048x2048 : Shape := ⟨2, ![2048, 2048]⟩
abbrev S64x32x2048 : Shape := ⟨3, ![64, 32, 2048]⟩
abbrev S64x64x8192 : Shape := ⟨3, ![64, 64, 8192]⟩
abbrev S64x256x2048 : Shape := ⟨3, ![64, 256, 2048]⟩
abbrev S4x4096x2048 : Shape := ⟨3, ![4, 4096, 2048]⟩
abbrev S1x4x1024x128 : Shape := ⟨4, ![1, 4, 1024, 128]⟩
abbrev S1x1x4096x128 : Shape := ⟨4, ![1, 1, 4096, 128]⟩
abbrev S1x1x4096x256 : Shape := ⟨4, ![1, 1, 4096, 256]⟩
abbrev S1x1x256x128 : Shape := ⟨4, ![1, 1, 256, 128]⟩
abbrev S1x1x256x256 : Shape := ⟨4, ![1, 1, 256, 256]⟩
abbrev S1x32x2048 : Shape := ⟨3, ![1, 32, 2048]⟩
abbrev S1x64x8192 : Shape := ⟨3, ![1, 64, 8192]⟩
abbrev S1x256x2048 : Shape := ⟨3, ![1, 256, 2048]⟩
abbrev S1x1024x512 : Shape := ⟨3, ![1, 1024, 512]⟩
abbrev S32x2048 : Shape := ⟨2, ![32, 2048]⟩
abbrev S64x8192 : Shape := ⟨2, ![64, 8192]⟩
abbrev S256x2048 : Shape := ⟨2, ![256, 2048]⟩
abbrev S4x1024x128 : Shape := ⟨3, ![4, 1024, 128]⟩
abbrev S4096x128 : Shape := ⟨2, ![4096, 128]⟩
abbrev S256x128 : Shape := ⟨2, ![256, 128]⟩
abbrev S4096x256 : Shape := ⟨2, ![4096, 256]⟩
abbrev S4096 : Shape := ⟨1, ![4096]⟩
abbrev S4096x1 : Shape := ⟨2, ![4096, 1]⟩
abbrev S256x256 : Shape := ⟨2, ![256, 256]⟩
abbrev S1024x128 : Shape := ⟨2, ![1024, 128]⟩
abbrev S1x1024x128 : Shape := ⟨3, ![1, 1024, 128]⟩

abbrev nBuf : Space → Nat
  | .hbm => 45
  | .vmem => 28
  | .smem => 0
  | _ => 0

abbrev bufTy : (tb : Table) → Fin (tcTables nBuf tb) → BufTy
  | .hbm, ⟨0, _⟩ => ⟨S4x4096x16x128, .f32⟩
  | .hbm, ⟨1, _⟩ => ⟨S4x4096x4x128, .f32⟩
  | .hbm, ⟨2, _⟩ => ⟨S4x4096x4x128, .f32⟩
  | .hbm, ⟨3, _⟩ => ⟨S4x256x4x128, .f32⟩
  | .hbm, ⟨4, _⟩ => ⟨S4x256x4x128, .f32⟩
  | .hbm, ⟨5, _⟩ => ⟨S1x2048x2048, .f32⟩
  | .hbm, ⟨6, _⟩ => ⟨S1x2048x2048, .f32⟩
  | .hbm, ⟨7, _⟩ => ⟨S2x2048x8192, .f32⟩
  | .hbm, ⟨8, _⟩ => ⟨S2x8192x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4x16x4096x128, .f32⟩
  | .hbm, ⟨17, _⟩ => ⟨S4x16x4096x128, .f32⟩
  | .hbm, ⟨18, _⟩ => ⟨S4x16x4096x128, .f32⟩
  | .hbm, ⟨19, _⟩ => ⟨S4x16x4096x128, .bf16⟩
  | .hbm, ⟨20, _⟩ => ⟨S4x4x4096x128, .f32⟩
  | .hbm, ⟨21, _⟩ => ⟨S4x4x4096x128, .bf16⟩
  | .hbm, ⟨22, _⟩ => ⟨S4x4x4096x128, .f32⟩
  | .hbm, ⟨23, _⟩ => ⟨S4x4x4096x128, .bf16⟩
  | .hbm, ⟨24, _⟩ => ⟨S4x4x256x128, .f32⟩
  | .hbm, ⟨25, _⟩ => ⟨S4x4x256x128, .bf16⟩
  | .hbm, ⟨26, _⟩ => ⟨S4x4x256x128, .f32⟩
  | .hbm, ⟨27, _⟩ => ⟨S4x4x256x128, .bf16⟩
  | .hbm, ⟨28, _⟩ => ⟨S_, .bf16⟩
  | .hbm, ⟨29, _⟩ => ⟨S4x4x4096x128, .bf16⟩
  | .hbm, ⟨30, _⟩ => ⟨S4x4x4096x256, .bf16⟩
  | .hbm, ⟨31, _⟩ => ⟨S_, .bf16⟩
  | .hbm, ⟨32, _⟩ => ⟨S4x4x256x128, .bf16⟩
  | .hbm, ⟨33, _⟩ => ⟨S4x4x256x256, .bf16⟩
  | .hbm, ⟨34, _⟩ => ⟨S2048x2048, .f32⟩
  | .hbm, ⟨35, _⟩ => ⟨S2048x2048, .f32⟩
  | .hbm, ⟨36, _⟩ => ⟨S64x32x2048, .f32⟩
  | .hbm, ⟨37, _⟩ => ⟨S64x32x2048, .f32⟩
  | .hbm, ⟨38, _⟩ => ⟨S64x64x8192, .f32⟩
  | .hbm, ⟨39, _⟩ => ⟨S64x256x2048, .f32⟩
  | .hbm, ⟨40, _⟩ => ⟨S4x4096x2048, .bf16⟩
  | .hbm, ⟨41, _⟩ => ⟨S64x32x2048, .bf16⟩
  | .hbm, ⟨42, _⟩ => ⟨S64x32x2048, .bf16⟩
  | .hbm, ⟨43, _⟩ => ⟨S64x64x8192, .bf16⟩
  | .hbm, ⟨44, _⟩ => ⟨S64x256x2048, .bf16⟩
  | .local _ .vmem, ⟨0, _⟩ => ⟨S1x4x1024x128, .bf16⟩
  | .local _ .vmem, ⟨1, _⟩ => ⟨S1x4x1024x128, .bf16⟩
  | .local _ .vmem, ⟨2, _⟩ => ⟨S1x1x4096x128, .bf16⟩
  | .local _ .vmem, ⟨3, _⟩ => ⟨S1x1x4096x128, .bf16⟩
  | .local _ .vmem, ⟨4, _⟩ => ⟨S1x1x4096x256, .bf16⟩
  | .local _ .vmem, ⟨5, _⟩ => ⟨S1x1x4096x256, .bf16⟩
  | .local _ .vmem, ⟨6, _⟩ => ⟨S1x1x256x128, .bf16⟩
  | .local _ .vmem, ⟨7, _⟩ => ⟨S1x1x256x128, .bf16⟩
  | .local _ .vmem, ⟨8, _⟩ => ⟨S1x1x256x256, .bf16⟩
  | .local _ .vmem, ⟨9, _⟩ => ⟨S1x1x256x256, .bf16⟩
  | .local _ .vmem, ⟨10, _⟩ => ⟨S1x32x2048, .f32⟩
  | .local _ .vmem, ⟨11, _⟩ => ⟨S1x32x2048, .f32⟩
  | .local _ .vmem, ⟨12, _⟩ => ⟨S1x32x2048, .f32⟩
  | .local _ .vmem, ⟨13, _⟩ => ⟨S1x32x2048, .f32⟩
  | .local _ .vmem, ⟨14, _⟩ => ⟨S1x64x8192, .f32⟩
  | .local _ .vmem, ⟨15, _⟩ => ⟨S1x64x8192, .f32⟩
  | .local _ .vmem, ⟨16, _⟩ => ⟨S1x256x2048, .f32⟩
  | .local _ .vmem, ⟨17, _⟩ => ⟨S1x256x2048, .f32⟩
  | .local _ .vmem, ⟨18, _⟩ => ⟨S1x1024x512, .bf16⟩
  | .local _ .vmem, ⟨19, _⟩ => ⟨S1x1024x512, .bf16⟩
  | .local _ .vmem, ⟨20, _⟩ => ⟨S1x32x2048, .bf16⟩
  | .local _ .vmem, ⟨21, _⟩ => ⟨S1x32x2048, .bf16⟩
  | .local _ .vmem, ⟨22, _⟩ => ⟨S1x32x2048, .bf16⟩
  | .local _ .vmem, ⟨23, _⟩ => ⟨S1x32x2048, .bf16⟩
  | .local _ .vmem, ⟨24, _⟩ => ⟨S1x64x8192, .bf16⟩
  | .local _ .vmem, ⟨25, _⟩ => ⟨S1x64x8192, .bf16⟩
  | .local _ .vmem, ⟨26, _⟩ => ⟨S1x256x2048, .bf16⟩
  | .local _ .vmem, ⟨27, _⟩ => ⟨S1x256x2048, .bf16⟩
  | _, _ => ⟨S4x4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev main_v26_2 : Ref sig .tc := ⟨.hbm, 42, rfl⟩
abbrev main_v26_3 : Ref sig .tc := ⟨.hbm, 43, rfl⟩
abbrev main_v26_4 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c0_i32 : BitVec 32 := 0#32
  let c0_i32_1 : BitVec 32 := 0#32
  let c0_i32_2 : BitVec 32 := 0#32
  ![v3.toNat, c0_i32.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c0_i32 : BitVec 32 := 0#32
  let c0_i32_1 : BitVec 32 := 0#32
  let c0_i32_2 : BitVec 32 := 0#32
  ![v3.toNat, c0_i32.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c0_i32 : BitVec 32 := 0#32
  let c0_i32_1 : BitVec 32 := 0#32
  let c0_i32_2 : BitVec 32 := 0#32
  ![v3.toNat, c0_i32.toNat, c0_i32_1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c0_i32 : BitVec 32 := 0#32
  let c0_i32_1 : BitVec 32 := 0#32
  let c0_i32_2 : BitVec 32 := 0#32
  ![v3.toNat, c0_i32.toNat, c0_i32_1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c0_i32 : BitVec 32 := 0#32
  let c0_i32_1 : BitVec 32 := 0#32
  let c0_i32_2 : BitVec 32 := 0#32
  ![v3.toNat, c0_i32.toNat, c0_i32_1.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c0_i32 : BitVec 32 := 0#32
  let c0_i32_1 : BitVec 32 := 0#32
  let c0_i32_2 : BitVec 32 := 0#32
  ![v3.toNat, c0_i32.toNat, c0_i32_1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c0_i32 : BitVec 32 := 0#32
  let c0_i32_1 : BitVec 32 := 0#32
  let c0_i32_2 : BitVec 32 := 0#32
  ![v3.toNat, c0_i32.toNat, c0_i32_1.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c0_i32 : BitVec 32 := 0#32
  let c0_i32_1 : BitVec 32 := 0#32
  let c0_i32_2 : BitVec 32 := 0#32
  ![v3.toNat, c0_i32.toNat, c0_i32_1.toNat]

abbrev stage0_0 : Fin 2 → Memref sig .tc .vmem S1x4x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x64x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x32x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x32x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x64x8192 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== ReferenceIdeal.lean ====
abbrev S4x4096x16x128 : Shape := ⟨4, ![4, 4096, 16, 128]⟩
abbrev S4x4096x4x128 : Shape := ⟨4, ![4, 4096, 4, 128]⟩
abbrev S4x256x4x128 : Shape := ⟨4, ![4, 256, 4, 128]⟩
abbrev S1x2048x2048 : Shape := ⟨3, ![1, 2048, 2048]⟩
abbrev S2x2048x8192 : Shape := ⟨3, ![2, 2048, 8192]⟩
abbrev S2x8192x2048 : Shape := ⟨3, ![2, 8192, 2048]⟩
abbrev S4x4096x4x4x128 : Shape := ⟨5, ![4, 4096, 4, 4, 128]⟩
abbrev S4x4x4096x4096x4 : Shape := ⟨5, ![4, 4, 4096, 4096, 4]⟩
abbrev S4x4x4x4096x4096 : Shape := ⟨5, ![4, 4, 4, 4096, 4096]⟩
abbrev S4x4x256x4096x4 : Shape := ⟨5, ![4, 4, 256, 4096, 4]⟩
abbrev S4x4x4x4096x256 : Shape := ⟨5, ![4, 4, 4, 4096, 256]⟩
abbrev S4x4x4x4096x4352 : Shape := ⟨5, ![4, 4, 4, 4096, 4352]⟩
abbrev S_ : Shape := ⟨0, ![]⟩
abbrev S4x4x4x4096 : Shape := ⟨4, ![4, 4, 4, 4096]⟩
abbrev S4x4x4x4096x1 : Shape := ⟨5, ![4, 4, 4, 4096, 1]⟩
abbrev S4x4x128x4x4096 : Shape := ⟨5, ![4, 4, 128, 4, 4096]⟩
abbrev S64x32x2048 : Shape := ⟨3, ![64, 32, 2048]⟩
abbrev S64x64x8192 : Shape := ⟨3, ![64, 64, 8192]⟩
abbrev S64x256x2048 : Shape := ⟨3, ![64, 256, 2048]⟩
abbrev S4x4096x2048 : Shape := ⟨3, ![4, 4096, 2048]⟩

abbrev nBuf : Space → Nat
  | .hbm => 50
  | .vmem => 0
  | .smem => 0
  | _ => 0

abbrev bufTy : (tb : Table) → Fin (tcTables nBuf tb) → BufTy
  | .hbm, ⟨0, _⟩ => ⟨S4x4096x16x128, .f32⟩
  | .hbm, ⟨1, _⟩ => ⟨S4x4096x4x128, .f32⟩
  | .hbm, ⟨2, _⟩ => ⟨S4x4096x4x128, .f32⟩
  | .hbm, ⟨3, _⟩ => ⟨S4x256x4x128, .f32⟩
  | .hbm, ⟨4, _⟩ => ⟨S4x256x4x128, .f32⟩
  | .hbm, ⟨5, _⟩ => ⟨S1x2048x2048, .f32⟩
  | .hbm, ⟨6, _⟩ => ⟨S1x2048x2048, .f32⟩
  | .hbm, ⟨7, _⟩ => ⟨S2x2048x8192, .f32⟩
  | .hbm, ⟨8, _⟩ => ⟨S2x8192x2048, .f32⟩
  | .hbm, ⟨9, _⟩ => ⟨S4x4096x4x4x128, .f32⟩
  | .hbm, ⟨10, _⟩ => ⟨S4x4x4096x4096x4, .f32⟩
  | .hbm, ⟨11, _⟩ => ⟨S4x4x4x4096x4096, .f32⟩
  | .hbm, ⟨12, _⟩ => ⟨S4x4x256x4096x4, .f32⟩
  | .hbm, ⟨13, _⟩ => ⟨S4x4x4x4096x256, .f32⟩
  | .hbm, ⟨14, _⟩ => ⟨S4x4x4x4096x4352, .f32⟩
  | .hbm, ⟨15, _⟩ => ⟨S_, .f32⟩
  | .hbm, ⟨16, _⟩ => ⟨S_, .f32⟩
  | .hbm, ⟨17, _⟩ => ⟨S4x4x4x4096x4352, .f32⟩
  | .hbm, ⟨18, _⟩ => ⟨S4x4x4x4096x4352, .f32⟩
  | .hbm, ⟨19, _⟩ => ⟨S_, .f32⟩
  | .hbm, ⟨20, _⟩ => ⟨S4x4x4x4096, .f32⟩
  | .hbm, ⟨21, _⟩ => ⟨S_, .f32⟩
  | .hbm, ⟨22, _⟩ => ⟨S4x4x4x4096, .f32⟩
  | .hbm, ⟨23, _⟩ => ⟨S4x4x4x4096, .f32⟩
  | .hbm, ⟨24, _⟩ => ⟨S4x4x4x4096x1, .f32⟩
  | .hbm, ⟨25, _⟩ => ⟨S4x4x4x4096x4352, .f32⟩
  | .hbm, ⟨26, _⟩ => ⟨S4x4x4x4096x4352, .f32⟩
  | .hbm, ⟨27, _⟩ => ⟨S4x4x4x4096x4352, .f32⟩
  | .hbm, ⟨28, _⟩ => ⟨S_, .f32⟩
  | .hbm, ⟨29, _⟩ => ⟨S4x4x4x4096, .f32⟩
  | .hbm, ⟨30, _⟩ => ⟨S4x4x4x4096x1, .f32⟩
  | .hbm, ⟨31, _⟩ => ⟨S4x4x4x4096x4352, .f32⟩
  | .hbm, ⟨32, _⟩ => ⟨S4x4x4x4096x4352, .f32⟩
  | .hbm, ⟨33, _⟩ => ⟨S4x4x4x4096x4096, .f32⟩
  | .hbm, ⟨34, _⟩ => ⟨S4x4x128x4x4096, .f32⟩
  | .hbm, ⟨35, _⟩ => ⟨S4x4096x4x4x128, .f32⟩
  | .hbm, ⟨36, _⟩ => ⟨S4x4x4x4096x256, .f32⟩
  | .hbm, ⟨37, _⟩ => ⟨S4x4x128x4x4096, .f32⟩
  | .hbm, ⟨38, _⟩ => ⟨S4x4096x4x4x128, .f32⟩
  | .hbm, ⟨39, _⟩ => ⟨S4x4096x4x4x128, .f32⟩
  | .hbm, ⟨40, _⟩ => ⟨S64x32x2048, .f32⟩
  | .hbm, ⟨41, _⟩ => ⟨S64x32x2048, .bf16⟩
  | .hbm, ⟨42, _⟩ => ⟨S64x32x2048, .f32⟩
  | .hbm, ⟨43, _⟩ => ⟨S64x32x2048, .bf16⟩
  | .hbm, ⟨44, _⟩ => ⟨S64x64x8192, .f32⟩
  | .hbm, ⟨45, _⟩ => ⟨S64x64x8192, .bf16⟩
  | .hbm, ⟨46, _⟩ => ⟨S64x256x2048, .f32⟩
  | .hbm, ⟨47, _⟩ => ⟨S64x256x2048, .bf16⟩
  | .hbm, ⟨48, _⟩ => ⟨S4x4096x2048, .f32⟩
  | .hbm, ⟨49, _⟩ => ⟨S4x4096x2048, .bf16⟩
  | _, _ => ⟨S4x4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Mlp.lean ====
abbrev S4x4096x2048 : Shape := ⟨3, ![4, 4096, 2048]⟩
abbrev S2x2048x8192 : Shape := ⟨3, ![2, 2048, 8192]⟩
abbrev S2x8192x2048 : Shape := ⟨3, ![2, 8192, 2048]⟩
abbrev S2x8x12288 : Shape := ⟨3, ![2, 8, 12288]⟩
abbrev S2048 : Shape := ⟨1, ![2048]⟩
abbrev S2x8x6x1x2048 : Shape := ⟨5, ![2, 8, 6, 1, 2048]⟩
abbrev S1x2048 : Shape := ⟨2, ![1, 2048]⟩
abbrev S1x512x2048 : Shape := ⟨3, ![1, 512, 2048]⟩
abbrev S1x2048x2048 : Shape := ⟨3, ![1, 2048, 2048]⟩
abbrev S1x1x1x1x2048 : Shape := ⟨5, ![1, 1, 1, 1, 2048]⟩
abbrev S1x256x2048 : Shape := ⟨3, ![1, 256, 2048]⟩
abbrev S256x2048 : Shape := ⟨2, ![256, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 12
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S2x2048x8192, .f32⟩
  | .hbm, ⟨2, _⟩ => ⟨S2x8192x2048, .f32⟩
  | .hbm, ⟨3, _⟩ => ⟨S4x4096x2048, .f32⟩
  | .hbm, ⟨4, _⟩ => ⟨S2x8x12288, .f32⟩
  | .hbm, ⟨5, _⟩ => ⟨S2048, .f32⟩
  | .hbm, ⟨6, _⟩ => ⟨S2x8x6x1x2048, .f32⟩
  | .hbm, ⟨7, _⟩ => ⟨S4x4096x2048, .bf16⟩
  | .hbm, ⟨8, _⟩ => ⟨S2x2048x8192, .bf16⟩
  | .hbm, ⟨9, _⟩ => ⟨S2x8192x2048, .bf16⟩
  | .hbm, ⟨10, _⟩ => ⟨S1x2048, .f32⟩
  | .hbm, ⟨11, _⟩ => ⟨S4x4096x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1x2048x2048, .bf16⟩
  | .local _ .vmem, ⟨5, _⟩ => ⟨S1x2048x2048, .bf16⟩
  | .local _ .vmem, ⟨6, _⟩ => ⟨S1x512x2048, .f32⟩
  | .local _ .vmem, ⟨7, _⟩ => ⟨S1x512x2048, .f32⟩
  | .local _ .vmem, ⟨8, _⟩ => ⟨S1x1x1x1x2048, .f32⟩
  | .local _ .vmem, ⟨9, _⟩ => ⟨S1x1x1x1x2048, .f32⟩
  | .local _ .vmem, ⟨10, _⟩ => ⟨S1x2048, .f32⟩
  | .local _ .vmem, ⟨11, _⟩ => ⟨S1x512x2048, .f32⟩
  | .local _ .vmem, ⟨12, _⟩ => ⟨S1x512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 8, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c3_i32 : BitVec 32 := 3#32
  let v4 : BitVec 1 := Scalar.cmpi .slt arg2 c3_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c5_i32 : BitVec 32 := 5#32
  let c0_i32 : BitVec 32 := 0#32
  let c0_i32_0 : BitVec 32 := 0#32
  let c0_i32_1 : BitVec 32 := 0#32
  ![c1_i32.toNat, arg0.toNat, c5_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== MlpReferenceIdeal.lean ====
abbrev S4x4096x2048 : Shape := ⟨3, ![4, 4096, 2048]⟩
abbrev S2x2048x8192 : Shape := ⟨3, ![2, 2048, 8192]⟩
abbrev S2x8192x2048 : Shape := ⟨3, ![2, 8192, 2048]⟩
abbrev S2x8x12288 : Shape := ⟨3, ![2, 8, 12288]⟩
abbrev S2048 : Shape := ⟨1, ![2048]⟩
abbrev S1x4x12288 : Shape := ⟨3, ![1, 4, 12288]⟩
abbrev S4x12288 : Shape := ⟨2, ![4, 12288]⟩
abbrev S4x1x12288 : Shape := ⟨3, ![4, 1, 12288]⟩
abbrev S4x1x2048 : Shape := ⟨3, ![4, 1, 2048]⟩
abbrev S1x2048x8192 : Shape := ⟨3, ![1, 2048, 8192]⟩
abbrev S2048x8192 : Shape := ⟨2, ![2048, 8192]⟩
abbrev S4x4096x8192 : Shape := ⟨3, ![4, 4096, 8192]⟩
abbrev S_ : Shape := ⟨0, ![]⟩
abbrev S1x8192x2048 : Shape := ⟨3, ![1, 8192, 2048]⟩
abbrev S8192x2048 : Shape := ⟨2, ![8192, 2048]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048x8192, .f32⟩
  | .hbm, ⟨2, _⟩ => ⟨S2x8192x2048, .f32⟩
  | .hbm, ⟨3, _⟩ => ⟨S4x4096x2048, .f32⟩
  | .hbm, ⟨4, _⟩ => ⟨S2x8x12288, .f32⟩
  | .hbm, ⟨5, _⟩ => ⟨S2048, .f32⟩
  | .hbm, ⟨6, _⟩ => ⟨S1x4x12288, .f32⟩
  | .hbm, ⟨7, _⟩ => ⟨S4x12288, .f32⟩
  | .hbm, ⟨8, _⟩ => ⟨S4x1x12288, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S1x2048x8192, .f32⟩
  | .hbm, ⟨16, _⟩ => ⟨S2048x8192, .f32⟩
  | .hbm, ⟨17, _⟩ => ⟨S4x4096x8192, .f32⟩
  | .hbm, ⟨18, _⟩ => ⟨S_, .f32⟩
  | .hbm, ⟨19, _⟩ => ⟨S4x4096x8192, .f32⟩
  | .hbm, ⟨20, _⟩ => ⟨S4x4096x8192, .f32⟩
  | .hbm, ⟨21, _⟩ => ⟨S4x4096x8192, .f32⟩
  | .hbm, ⟨22, _⟩ => ⟨S1x8192x2048, .f32⟩
  | .hbm, ⟨23, _⟩ => ⟨S8192x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S_, .f32⟩
  | .hbm, ⟨30, _⟩ => ⟨S4x4096, .f32⟩
  | .hbm, ⟨31, _⟩ => ⟨S4x4096x1, .f32⟩
  | .hbm, ⟨32, _⟩ => ⟨S_, .f32⟩
  | .hbm, ⟨33, _⟩ => ⟨S4x4096x1, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S4x4096x1, .f32⟩
  | .hbm, ⟨39, _⟩ => ⟨S4x4096x2048, .f32⟩
  | .hbm, ⟨40, _⟩ => ⟨S4x4096x2048, .f32⟩
  | .hbm, ⟨41, _⟩ => ⟨S1x1x2048, .f32⟩
  | .hbm, ⟨42, _⟩ => ⟨S4x4096x2048, .f32⟩
  | .hbm, ⟨43, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== FirstMlp.lean ====
abbrev S4x4096x2048 : Shape := ⟨3, ![4, 4096, 2048]⟩
abbrev S2x2048x8192 : Shape := ⟨3, ![2, 2048, 8192]⟩
abbrev S2x8192x2048 : Shape := ⟨3, ![2, 8192, 2048]⟩
abbrev S2x8x12288 : Shape := ⟨3, ![2, 8, 12288]⟩
abbrev S2x8x6x1x2048 : Shape := ⟨5, ![2, 8, 6, 1, 2048]⟩
abbrev S4x4096x128 : Shape := ⟨3, ![4, 4096, 128]⟩
abbrev S1x512x2048 : Shape := ⟨3, ![1, 512, 2048]⟩
abbrev S1x2048x2048 : Shape := ⟨3, ![1, 2048, 2048]⟩
abbrev S1x1x1x1x2048 : Shape := ⟨5, ![1, 1, 1, 1, 2048]⟩
abbrev S1x512x128 : Shape := ⟨3, ![1, 512, 128]⟩
abbrev S1x256x2048 : Shape := ⟨3, ![1, 256, 2048]⟩
abbrev S256x2048 : Shape := ⟨2, ![256, 2048]⟩
abbrev S2048x2048 : Shape := ⟨2, ![2048, 2048]⟩
abbrev S1x2048 : Shape := ⟨2, ![1, 2048]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩

abbrev nBuf : Space → Nat
  | .hbm => 11
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S2x2048x8192, .f32⟩
  | .hbm, ⟨2, _⟩ => ⟨S2x8192x2048, .f32⟩
  | .hbm, ⟨3, _⟩ => ⟨S4x4096x2048, .f32⟩
  | .hbm, ⟨4, _⟩ => ⟨S2x8x12288, .f32⟩
  | .hbm, ⟨5, _⟩ => ⟨S2x8x6x1x2048, .f32⟩
  | .hbm, ⟨6, _⟩ => ⟨S4x4096x2048, .bf16⟩
  | .hbm, ⟨7, _⟩ => ⟨S2x2048x8192, .bf16⟩
  | .hbm, ⟨8, _⟩ => ⟨S2x8192x2048, .bf16⟩
  | .hbm, ⟨9, _⟩ => ⟨S4x4096x2048, .f32⟩
  | .hbm, ⟨10, _⟩ => ⟨S4x4096x128, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1x2048x2048, .bf16⟩
  | .local _ .vmem, ⟨5, _⟩ => ⟨S1x2048x2048, .bf16⟩
  | .local _ .vmem, ⟨6, _⟩ => ⟨S1x512x2048, .f32⟩
  | .local _ .vmem, ⟨7, _⟩ => ⟨S1x512x2048, .f32⟩
  | .local _ .vmem, ⟨8, _⟩ => ⟨S1x1x1x1x2048, .f32⟩
  | .local _ .vmem, ⟨9, _⟩ => ⟨S1x1x1x1x2048, .f32⟩
  | .local _ .vmem, ⟨10, _⟩ => ⟨S1x512x2048, .f32⟩
  | .local _ .vmem, ⟨11, _⟩ => ⟨S1x512x2048, .f32⟩
  | .local _ .vmem, ⟨12, _⟩ => ⟨S1x512x128, .f32⟩
  | .local _ .vmem, ⟨13, _⟩ => ⟨S1x512x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 8, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c3_i32 : BitVec 32 := 3#32
  let v4 : BitVec 1 := Scalar.cmpi .slt arg2 c3_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c5_i32 : BitVec 32 := 5#32
  let c0_i32_0 : BitVec 32 := 0#32
  let c0_i32_1 : BitVec 32 := 0#32
  let c0_i32_2 : BitVec 32 := 0#32
  ![c0_i32.toNat, arg0.toNat, c5_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== FirstMlpReferenceIdeal.lean ====
abbrev S4x4096x2048 : Shape := ⟨3, ![4, 4096, 2048]⟩
abbrev S2x2048x8192 : Shape := ⟨3, ![2, 2048, 8192]⟩
abbrev S2x8192x2048 : Shape := ⟨3, ![2, 8192, 2048]⟩
abbrev S2x8x12288 : Shape := ⟨3, ![2, 8, 12288]⟩
abbrev S1x4x12288 : Shape := ⟨3, ![1, 4, 12288]⟩
abbrev S4x12288 : Shape := ⟨2, ![4, 12288]⟩
abbrev S4x1x12288 : Shape := ⟨3, ![4, 1, 12288]⟩
abbrev S4x1x2048 : Shape := ⟨3, ![4, 1, 2048]⟩
abbrev S1x2048x8192 : Shape := ⟨3, ![1, 2048, 8192]⟩
abbrev S2048x8192 : Shape := ⟨2, ![2048, 8192]⟩
abbrev S4x4096x8192 : Shape := ⟨3, ![4, 4096, 8192]⟩
abbrev S_ : Shape := ⟨0, ![]⟩
abbrev S1x8192x2048 : Shape := ⟨3, ![1, 8192, 2048]⟩
abbrev S8192x2048 : Shape := ⟨2, ![8192, 2048]⟩
abbrev S4x4096 : Shape := ⟨2, ![4, 4096]⟩
abbrev S4x4096x1 : Shape := ⟨3, ![4, 4096, 1]⟩
abbrev S4x4096x128 : Shape := ⟨3, ![4, 4096, 128]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048x8192, .f32⟩
  | .hbm, ⟨2, _⟩ => ⟨S2x8192x2048, .f32⟩
  | .hbm, ⟨3, _⟩ => ⟨S4x4096x2048, .f32⟩
  | .hbm, ⟨4, _⟩ => ⟨S2x8x12288, .f32⟩
  | .hbm, ⟨5, _⟩ => ⟨S1x4x12288, .f32⟩
  | .hbm, ⟨6, _⟩ => ⟨S4x12288, .f32⟩
  | .hbm, ⟨7, _⟩ => ⟨S4x1x12288, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S1x2048x8192, .f32⟩
  | .hbm, ⟨15, _⟩ => ⟨S2048x8192, .f32⟩
  | .hbm, ⟨16, _⟩ => ⟨S4x4096x8192, .f32⟩
  | .hbm, ⟨17, _⟩ => ⟨S_, .f32⟩
  | .hbm, ⟨18, _⟩ => ⟨S4x4096x8192, .f32⟩
  | .hbm, ⟨19, _⟩ => ⟨S4x4096x8192, .f32⟩
  | .hbm, ⟨20, _⟩ => ⟨S4x4096x8192, .f32⟩
  | .hbm, ⟨21, _⟩ => ⟨S1x8192x2048, .f32⟩
  | .hbm, ⟨22, _⟩ => ⟨S8192x2048, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S_, .f32⟩
  | .hbm, ⟨35, _⟩ => ⟨S4x4096x1, .f32⟩
  | .hbm, ⟨36, _⟩ => ⟨S4x4096x1, .f32⟩
  | .hbm, ⟨37, _⟩ => ⟨S4x4096x1, .f32⟩
  | .hbm, ⟨38, _⟩ => ⟨S4x4096x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Out.lean ====
abbrev S4x4096x2048 : Shape := ⟨3, ![4, 4096, 2048]⟩
abbrev S1x2048x2048 : Shape := ⟨3, ![1, 2048, 2048]⟩
abbrev S2x8x12288 : Shape := ⟨3, ![2, 8, 12288]⟩
abbrev S2x2048 : Shape := ⟨2, ![2, 2048]⟩
abbrev S2x8x6x1x2048 : Shape := ⟨5, ![2, 8, 6, 1, 2048]⟩
abbrev S2048x2048 : Shape := ⟨2, ![2048, 2048]⟩
abbrev S2x1x2048 : Shape := ⟨3, ![2, 1, 2048]⟩
abbrev S1x512x2048 : Shape := ⟨3, ![1, 512, 2048]⟩
abbrev S1x1x1x1x2048 : Shape := ⟨5, ![1, 1, 1, 1, 2048]⟩
abbrev S1x1x2048 : Shape := ⟨3, ![1, 1, 2048]⟩
abbrev S1x2048 : Shape := ⟨2, ![1, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 16
  | .smem => 0
  | _ => 0

abbrev bufTy : (tb : Table) → Fin (tcTables nBuf tb) → BufTy
  | .hbm, ⟨0, _⟩ => ⟨S4x4096x2048, .f32⟩
  | .hbm, ⟨1, _⟩ => ⟨S1x2048x2048, .f32⟩
  | .hbm, ⟨2, _⟩ => ⟨S4x4096x2048, .f32⟩
  | .hbm, ⟨3, _⟩ => ⟨S2x8x12288, .f32⟩
  | .hbm, ⟨4, _⟩ => ⟨S2x2048, .f32⟩
  | .hbm, ⟨5, _⟩ => ⟨S2x8x6x1x2048, .f32⟩
  | .hbm, ⟨6, _⟩ => ⟨S4x4096x2048, .bf16⟩
  | .hbm, ⟨7, _⟩ => ⟨S2048x2048, .f32⟩
  | .hbm, ⟨8, _⟩ => ⟨S2048x2048, .bf16⟩
  | .hbm, ⟨9, _⟩ => ⟨S2x1x2048, .f32⟩
  | .hbm, ⟨10, _⟩ => ⟨S4x4096x2048, .f32⟩
  | .hbm, ⟨11, _⟩ => ⟨S4x4096x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S2048x2048, .bf16⟩
  | .local _ .vmem, ⟨3, _⟩ => ⟨S1x512x2048, .f32⟩
  | .local _ .vmem, ⟨4, _⟩ => ⟨S1x512x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S1x1x2048, .f32⟩
  | .local _ .vmem, ⟨8, _⟩ => ⟨S1x1x1x1x2048, .f32⟩
  | .local _ .vmem, ⟨9, _⟩ => ⟨S1x1x1x1x2048, .f32⟩
  | .local _ .vmem, ⟨10, _⟩ => ⟨S1x1x1x1x2048, .f32⟩
  | .local _ .vmem, ⟨11, _⟩ => ⟨S1x1x1x1x2048, .f32⟩
  | .local _ .vmem, ⟨12, _⟩ => ⟨S1x512x2048, .f32⟩
  | .local _ .vmem, ⟨13, _⟩ => ⟨S1x512x2048, .f32⟩
  | .local _ .vmem, ⟨14, _⟩ => ⟨S1x512x2048, .bf16⟩
  | .local _ .vmem, ⟨15, _⟩ => ⟨S1x512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, arg0.toNat, c2_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  let c0_i32_1 : BitVec 32 := 0#32
  let c0_i32_2 : BitVec 32 := 0#32
  ![c0_i32.toNat, arg0.toNat, c4_i32.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, arg0.toNat, c3_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OutReferenceIdeal.lean ====
abbrev S4x4096x2048 : Shape := ⟨3, ![4, 4096, 2048]⟩
abbrev S1x2048x2048 : Shape := ⟨3, ![1, 2048, 2048]⟩
abbrev S2x8x12288 : Shape := ⟨3, ![2, 8, 12288]⟩
abbrev S2x2048 : Shape := ⟨2, ![2, 2048]⟩
abbrev S1x4x12288 : Shape := ⟨3, ![1, 4, 12288]⟩
abbrev S4x12288 : Shape := ⟨2, ![4, 12288]⟩
abbrev S4x1x12288 : Shape := ⟨3, ![4, 1, 12288]⟩
abbrev S4x1x2048 : Shape := ⟨3, ![4, 1, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048x2048, .f32⟩
  | .hbm, ⟨2, _⟩ => ⟨S4x4096x2048, .f32⟩
  | .hbm, ⟨3, _⟩ => ⟨S2x8x12288, .f32⟩
  | .hbm, ⟨4, _⟩ => ⟨S2x2048, .f32⟩
  | .hbm, ⟨5, _⟩ => ⟨S1x4x12288, .f32⟩
  | .hbm, ⟨6, _⟩ => ⟨S4x12288, .f32⟩
  | .hbm, ⟨7, _⟩ => ⟨S4x1x12288, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S2048x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S1x2048, .f32⟩
  | .hbm, ⟨20, _⟩ => ⟨S2048, .f32⟩
  | .hbm, ⟨21, _⟩ => ⟨S4x4096x2048, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S_, .f32⟩
  | .hbm, ⟨29, _⟩ => ⟨S4x4096x1, .f32⟩
  | .hbm, ⟨30, _⟩ => ⟨S4x4096x1, .f32⟩
  | .hbm, ⟨31, _⟩ => ⟨S4x4096x1, .f32⟩
  | .hbm, ⟨32, _⟩ => ⟨S4x4096x2048, .f32⟩
  | .hbm, ⟨33, _⟩ => ⟨S4x4096x2048, .f32⟩
  | .hbm, ⟨34, _⟩ => ⟨S1x1x2048, .f32⟩
  | .hbm, ⟨35, _⟩ => ⟨S4x4096x2048, .f32⟩
  | .hbm, ⟨36, _⟩ => ⟨S4x4096x2048, .f32⟩
  | .hbm, ⟨37, _⟩ => ⟨S_, .f32⟩
  | .hbm, ⟨38, _⟩ => ⟨S4x1x2048, .f32⟩
  | .hbm, ⟨39, _⟩ => ⟨S4x1x2048, .f32⟩
  | .hbm, ⟨40, _⟩ => ⟨S4x4096x2048, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S4x4096x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Ctx.lean ====
abbrev S4x256x2048 : Shape := ⟨3, ![4, 256, 2048]⟩
abbrev S2x8x12288 : Shape := ⟨3, ![2, 8, 12288]⟩
abbrev S2x2048 : Shape := ⟨2, ![2, 2048]⟩
abbrev S1x2048x3072 : Shape := ⟨3, ![1, 2048, 3072]⟩
abbrev S1x128 : Shape := ⟨2, ![1, 128]⟩
abbrev S2x8x6x1x2048 : Shape := ⟨5, ![2, 8, 6, 1, 2048]⟩
abbrev S_ : Shape := ⟨0, ![]⟩
abbrev S4096x128 : Shape := ⟨2, ![4096, 128]⟩
abbrev S2x1x2048 : Shape := ⟨3, ![2, 1, 2048]⟩
abbrev S2048x3072 : Shape := ⟨2, ![2048, 3072]⟩
abbrev S4x4x256x128 : Shape := ⟨4, ![4, 4, 256, 128]⟩
abbrev S4x4x256x256 : Shape := ⟨4, ![4, 4, 256, 256]⟩
abbrev S1x256x2048 : Shape := ⟨3, ![1, 256, 2048]⟩
abbrev S1x1x1x1x2048 : Shape := ⟨5, ![1, 1, 1, 1, 2048]⟩
abbrev S1x1x2048 : Shape := ⟨3, ![1, 1, 2048]⟩
abbrev S2048x1024 : Shape := ⟨2, ![2048, 1024]⟩
abbrev S256x128 : Shape := ⟨2, ![256, 128]⟩
abbrev S1x4x256x128 : Shape := ⟨4, ![1, 4, 256, 128]⟩
abbrev S1x4x256x256 : Shape := ⟨4, ![1, 4, 256, 256]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S1x1x256x128 : Shape := ⟨4, ![1, 1, 256, 128]⟩

abbrev nBuf : Space → Nat
  | .hbm => 15
  | .vmem => 14
  | .smem => 0
  | _ => 0

abbrev bufTy : (tb : Table) → Fin (tcTables nBuf tb) → BufTy
  | .hbm, ⟨0, _⟩ => ⟨S4x256x2048, .f32⟩
  | .hbm, ⟨1, _⟩ => ⟨S2x8x12288, .f32⟩
  | .hbm, ⟨2, _⟩ => ⟨S2x2048, .f32⟩
  | .hbm, ⟨3, _⟩ => ⟨S1x2048x3072, .f32⟩
  | .hbm, ⟨4, _⟩ => ⟨S1x128, .f32⟩
  | .hbm, ⟨5, _⟩ => ⟨S2x8x6x1x2048, .f32⟩
  | .hbm, ⟨6, _⟩ => ⟨S_, .f32⟩
  | .hbm, ⟨7, _⟩ => ⟨S4096x128, .f32⟩
  | .hbm, ⟨8, _⟩ => ⟨S_, .f32⟩
  | .hbm, ⟨9, _⟩ => ⟨S4096x128, .f32⟩
  | .hbm, ⟨10, _⟩ => ⟨S2x1x2048, .f32⟩
  | .hbm, ⟨11, _⟩ => ⟨S2048x3072, .f32⟩
  | .hbm, ⟨12, _⟩ => ⟨S2048x3072, .bf16⟩
  | .hbm, ⟨13, _⟩ => ⟨S4x4x256x128, .bf16⟩
  | .hbm, ⟨14, _⟩ => ⟨S4x4x256x256, .bf16⟩
  | .local _ .vmem, ⟨0, _⟩ => ⟨S1x256x2048, .f32⟩
  | .local _ .vmem, ⟨1, _⟩ => ⟨S1x256x2048, .f32⟩
  | .local _ .vmem, ⟨2, _⟩ => ⟨S1x1x1x1x2048, .f32⟩
  | .local _ .vmem, ⟨3, _⟩ => ⟨S1x1x1x1x2048, .f32⟩
  | .local _ .vmem, ⟨4, _⟩ => ⟨S1x1x2048, .f32⟩
  | .local _ .vmem, ⟨5, _⟩ => ⟨S2048x1024, .bf16⟩
  | .local _ .vmem, ⟨6, _⟩ => ⟨S1x128, .f32⟩
  | .local _ .vmem, ⟨7, _⟩ => ⟨S1x128, .f32⟩
  | .local _ .vmem, ⟨8, _⟩ => ⟨S256x128, .f32⟩
  | .local _ .vmem, ⟨9, _⟩ => ⟨S256x128, .f32⟩
  | .local _ .vmem, ⟨10, _⟩ => ⟨S1x4x256x128, .bf16⟩
  | .local _ .vmem, ⟨11, _⟩ => ⟨S1x4x256x128, .bf16⟩
  | .local _ .vmem, ⟨12, _⟩ => ⟨S1x4x256x256, .bf16⟩
  | .local _ .vmem, ⟨13, _⟩ => ⟨S1x4x256x256, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  let c0_i32_1 : BitVec 32 := 0#32
  let c0_i32_2 : BitVec 32 := 0#32
  let c0_i32_3 : BitVec 32 := 0#32
  ![c0_i32.toNat, c4_i32.toNat, c0_i32_0.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c4_i32 : BitVec 32 := 4#32
  let c1_i32 : BitVec 32 := 1#32
  let c0_i32_0 : BitVec 32 := 0#32
  let c0_i32_1 : BitVec 32 := 0#32
  let c0_i32_2 : BitVec 32 := 0#32
  ![c0_i32.toNat, c4_i32.toNat, c1_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 2 → Memref sig .tc .vmem S1x4x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== CtxReferenceIdeal.lean ====
abbrev S4x256x2048 : Shape := ⟨3, ![4, 256, 2048]⟩
abbrev S2x8x12288 : Shape := ⟨3, ![2, 8, 12288]⟩
abbrev S2x2048 : Shape := ⟨2, ![2, 2048]⟩
abbrev S1x2048x3072 : Shape := ⟨3, ![1, 2048, 3072]⟩
abbrev S1x128 : Shape := ⟨2, ![1, 128]⟩
abbrev S1x1x12288 : Shape := ⟨3, ![1, 1, 12288]⟩
abbrev S12288 : Shape := ⟨1, ![12288]⟩
abbrev S2048 : Shape := ⟨1, ![2048]⟩
abbrev S1x2048 : Shape := ⟨2, ![1, 2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S2048x3072 : Shape := ⟨2, ![2048, 3072]⟩
abbrev S2048x1024 : Shape := ⟨2, ![2048, 1024]⟩
abbrev S128 : Shape := ⟨1, ![128]⟩
abbrev S4x256x1024 : Shape := ⟨3, ![4, 256, 1024]⟩
abbrev S4x256x512 : Shape := ⟨3, ![4, 256, 512]⟩
abbrev S4x256x4x128 : Shape := ⟨4, ![4, 256, 4, 128]⟩
abbrev S4x256x4 : Shape := ⟨3, ![4, 256, 4]⟩
abbrev S4x256x4x1 : Shape := ⟨4, ![4, 256, 4, 1]⟩
abbrev S1x1x1x128 : Shape := ⟨4, ![1, 1, 1, 128]⟩
abbrev S4x4x256x128 : Shape := ⟨4, ![4, 4, 256, 128]⟩
abbrev S4x4x256x256 : Shape := ⟨4, ![4, 4, 256, 256]⟩

abbrev nBuf : Space → Nat
  | .hbm => 71
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S2x8x12288, .f32⟩
  | .hbm, ⟨2, _⟩ => ⟨S2x2048, .f32⟩
  | .hbm, ⟨3, _⟩ => ⟨S1x2048x3072, .f32⟩
  | .hbm, ⟨4, _⟩ => ⟨S1x128, .f32⟩
  | .hbm, ⟨5, _⟩ => ⟨S1x1x12288, .f32⟩
  | .hbm, ⟨6, _⟩ => ⟨S12288, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S1x2048, .f32⟩
  | .hbm, ⟨14, _⟩ => ⟨S2048, .f32⟩
  | .hbm, ⟨15, _⟩ => ⟨S4x256x2048, .f32⟩
  | .hbm, ⟨16, _⟩ => ⟨S_, .f32⟩
  | .hbm, ⟨17, _⟩ => ⟨S4x256, .f32⟩
  | .hbm, ⟨18, _⟩ => ⟨S4x256x1, .f32⟩
  | .hbm, ⟨19, _⟩ => ⟨S_, .f32⟩
  | .hbm, ⟨20, _⟩ => ⟨S4x256x1, .f32⟩
  | .hbm, ⟨21, _⟩ => ⟨S4x256x1, .f32⟩
  | .hbm, ⟨22, _⟩ => ⟨S_, .f32⟩
  | .hbm, ⟨23, _⟩ => ⟨S4x256x1, .f32⟩
  | .hbm, ⟨24, _⟩ => ⟨S4x256x1, .f32⟩
  | .hbm, ⟨25, _⟩ => ⟨S4x256x1, .f32⟩
  | .hbm, ⟨26, _⟩ => ⟨S4x256x2048, .f32⟩
  | .hbm, ⟨27, _⟩ => ⟨S4x256x2048, .f32⟩
  | .hbm, ⟨28, _⟩ => ⟨S1x1x2048, .f32⟩
  | .hbm, ⟨29, _⟩ => ⟨S4x256x2048, .f32⟩
  | .hbm, ⟨30, _⟩ => ⟨S4x256x2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S1x1x2048, .f32⟩
  | .hbm, ⟨35, _⟩ => ⟨S4x256x2048, .f32⟩
  | .hbm, ⟨36, _⟩ => ⟨S4x256x2048, .f32⟩
  | .hbm, ⟨37, _⟩ => ⟨S1x1x2048, .f32⟩
  | .hbm, ⟨38, _⟩ => ⟨S4x256x2048, .f32⟩
  | .hbm, ⟨39, _⟩ => ⟨S4x256x2048, .f32⟩
  | .hbm, ⟨40, _⟩ => ⟨S2048x3072, .f32⟩
  | .hbm, ⟨41, _⟩ => ⟨S2048x1024, .f32⟩
  | .hbm, ⟨42, _⟩ => ⟨S128, .f32⟩
  | .hbm, ⟨43, _⟩ => ⟨S4x256x1024, .f32⟩
  | .hbm, ⟨44, _⟩ => ⟨S4x256x512, .f32⟩
  | .hbm, ⟨45, _⟩ => ⟨S4x256x512, .f32⟩
  | .hbm, ⟨46, _⟩ => ⟨S4x256x4x128, .f32⟩
  | .hbm, ⟨47, _⟩ => ⟨S4x256x4x128, .f32⟩
  | .hbm, ⟨48, _⟩ => ⟨S_, .f32⟩
  | .hbm, ⟨49, _⟩ => ⟨S4x256x4, .f32⟩
  | .hbm, ⟨50, _⟩ => ⟨S4x256x4x1, .f32⟩
  | .hbm, ⟨51, _⟩ => ⟨S_, .f32⟩
  | .hbm, ⟨52, _⟩ => ⟨S4x256x4x1, .f32⟩
  | .hbm, ⟨53, _⟩ => ⟨S4x256x4x1, .f32⟩
  | .hbm, ⟨54, _⟩ => ⟨S_, .f32⟩
  | .hbm, ⟨55, _⟩ => ⟨S4x256x4x1, .f32⟩
  | .hbm, ⟨56, _⟩ => ⟨S4x256x4x1, .f32⟩
  | .hbm, ⟨57, _⟩ => ⟨S4x256x4x1, .f32⟩
  | .hbm, ⟨58, _⟩ => ⟨S4x256x4x128, .f32⟩
  | .hbm, ⟨59, _⟩ => ⟨S4x256x4x128, .f32⟩
  | .hbm, ⟨60, _⟩ => ⟨S1x1x1x128, .f32⟩
  | .hbm, ⟨61, _⟩ => ⟨S4x256x4x128, .f32⟩
  | .hbm, ⟨62, _⟩ => ⟨S4x256x4x128, .f32⟩
  | .hbm, ⟨63, _⟩ => ⟨S4x256x4x128, .f32⟩
  | .hbm, ⟨64, _⟩ => ⟨S4x4x256x128, .f32⟩
  | .hbm, ⟨65, _⟩ => ⟨S4x4x256x128, .f32⟩
  | .hbm, ⟨66, _⟩ => ⟨S4x4x256x128, .bf16⟩
  | .hbm, ⟨67, _⟩ => ⟨S_, .f32⟩
  | .hbm, ⟨68, _⟩ => ⟨S4x4x256x128, .f32⟩
  | .hbm, ⟨69, _⟩ => ⟨S4x4x256x256, .f32⟩
  | .hbm, ⟨70, _⟩ => ⟨S4x4x256x256, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_6 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩

abbrev nD : Nat := 1
abbrev τ : Topo := Topo.v7x

variable {F : FTy → Type} [FloatOps F]
-- ==== Modulation.lean ====
abbrev S4x2048 : Shape := ⟨2, ![4, 2048]⟩
abbrev S2048 : Shape := ⟨1, ![2048]⟩
abbrev S2x2048x12288 : Shape := ⟨3, ![2, 2048, 12288]⟩
abbrev S2x12288 : Shape := ⟨2, ![2, 12288]⟩
abbrev S_ : Shape := ⟨0, ![]⟩
abbrev S0x2048 : Shape := ⟨2, ![0, 2048]⟩
abbrev S1x2048 : Shape := ⟨2, ![1, 2048]⟩
abbrev S3x2048 : Shape := ⟨2, ![3, 2048]⟩
abbrev S8x2048 : Shape := ⟨2, ![8, 2048]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 12
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S_, .f32⟩
  | .hbm, ⟨5, _⟩ => ⟨S0x2048, .f32⟩
  | .hbm, ⟨6, _⟩ => ⟨S1x2048, .f32⟩
  | .hbm, ⟨7, _⟩ => ⟨S_, .f32⟩
  | .hbm, ⟨8, _⟩ => ⟨S3x2048, .f32⟩
  | .hbm, ⟨9, _⟩ => ⟨S8x2048, .f32⟩
  | .hbm, ⟨10, _⟩ => ⟨S2x1x12288, .f32⟩
  | .hbm, ⟨11, _⟩ => ⟨S2x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationReferenceIdeal.lean ====
abbrev S4x2048 : Shape := ⟨2, ![4, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S1x2048x12288 : Shape := ⟨3, ![1, 2048, 12288]⟩
abbrev S2048x12288 : Shape := ⟨2, ![2048, 12288]⟩
abbrev S8x12288 : Shape := ⟨2, ![8, 12288]⟩
abbrev S1x12288 : Shape := ⟨2, ![1, 12288]⟩
abbrev S12288 : Shape := ⟨1, ![12288]⟩
abbrev S1x8x12288 : Shape := ⟨3, ![1, 8, 12288]⟩
abbrev S2x8x12288 : Shape := ⟨3, ![2, 8, 12288]⟩

abbrev nBuf : Space → Nat
  | .hbm => 36
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S1x2048x12288, .f32⟩
  | .hbm, ⟨18, _⟩ => ⟨S2048x12288, .f32⟩
  | .hbm, ⟨19, _⟩ => ⟨S8x12288, .f32⟩
  | .hbm, ⟨20, _⟩ => ⟨S1x12288, .f32⟩
  | .hbm, ⟨21, _⟩ => ⟨S12288, .f32⟩
  | .hbm, ⟨22, _⟩ => ⟨S1x12288, .f32⟩
  | .hbm, ⟨23, _⟩ => ⟨S8x12288, .f32⟩
  | .hbm, ⟨24, _⟩ => ⟨S8x12288, .f32⟩
  | .hbm, ⟨25, _⟩ => ⟨S1x2048x12288, .f32⟩
  | .hbm, ⟨26, _⟩ => ⟨S2048x12288, .f32⟩
  | .hbm, ⟨27, _⟩ => ⟨S8x12288, .f32⟩
  | .hbm, ⟨28, _⟩ => ⟨S1x12288, .f32⟩
  | .hbm, ⟨29, _⟩ => ⟨S12288, .f32⟩
  | .hbm, ⟨30, _⟩ => ⟨S1x12288, .f32⟩
  | .hbm, ⟨31, _⟩ => ⟨S8x12288, .f32⟩
  | .hbm, ⟨32, _⟩ => ⟨S8x12288, .f32⟩
  | .hbm, ⟨33, _⟩ => ⟨S1x8x12288, .f32⟩
  | .hbm, ⟨34, _⟩ => ⟨S1x8x12288, .f32⟩
  | .hbm, ⟨35, _⟩ => ⟨S2x8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== Proof.Online.lean ====
/-
  The arithmetic of attention that is taken chunk by chunk, over the extended reals.

  One row of attention has a score for every key and, for one column, a value for every key. The keys come in
  chunks of 256. The kernel keeps a running maximum of the scores and a running weighted sum, and rescales the sum
  each time the maximum grows (`runMax`, `runAcc`). When the scores are real numbers the running sum after chunk
  `n` is the plain sum of `2 ^ (score - max) * value` over the keys seen so far (`runAcc_eq`), whatever the values
  are, infinite ones included: rescaling multiplies by a positive real number, and that distributes.

  `softmax_ratio` then says that the quotient of two such sums, the second over the constant value one, is the
  softmax-weighted mean of the values. Neither quotient depends on the number subtracted in the exponents.
-/
module

public import Idealize.ShloMosaic.PureOps.Ideal

@[expose] public section

noncomputable section

open Idealize.ShloMosaic

namespace Cert.Attn

theorem exp2_coe (x : ℝ) : Ideal.exp2 (x : EReal) = (((2 : ℝ) ^ x : ℝ) : EReal) := rfl

theorem exp_coe (x : ℝ) : Ideal.exp (x : EReal) = ((Real.exp x : ℝ) : EReal) := rfl

/-- A nonnegative real factor distributes over a finite sum of extended reals. -/
theorem coe_mul_sum {ι : Type*} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- A finite sum of real numbers, taken in the extended reals. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Division by a positive real number is multiplication by its inverse. -/
theorem div_coe {c : ℝ} (hc : 0 < c) (x : EReal) : Ideal.div x c = x * ((c⁻¹ : ℝ) : EReal) := by
  rw [Ideal.div, if_neg (by exact_mod_cast hc.ne'), EReal.coe_inv]

/-- The maximum of finitely many real numbers, at least one, is a real number. -/
theorem fold_max_coe {n : ℕ} (f : Fin (n + 1) → ℝ) :
    ∃ r : ℝ, Finset.univ.fold max (⊥ : EReal) (fun i => (f i : EReal)) = r := by
  set x := Finset.univ.fold max (⊥ : EReal) (fun i => (f i : EReal)) with hx
  have hb : x ≠ ⊥ := by
    have h : (f 0 : EReal) ≤ x := (Finset.le_fold_max _).mpr (Or.inr ⟨0, Finset.mem_univ _, le_rfl⟩)
    exact fun e => EReal.coe_ne_bot _ (le_bot_iff.mp (e ▸ h))
  have ht : x < ⊤ := (Finset.fold_max_lt _).mpr ⟨bot_lt_top, fun i _ => EReal.coe_lt_top _⟩
  exact ⟨x.toReal, (EReal.coe_toReal ht.ne hb).symm⟩

/-- The running maximum of the scores after chunk `n`. -/
def runMax (s : ℕ → Fin 256 → EReal) : ℕ → EReal
  | 0 => Finset.univ.fold max ⊥ (s 0)
  | n + 1 => max (runMax s n) (Finset.univ.fold max ⊥ (s (n + 1)))

/-- The running weighted sum after chunk `n`, rescaled to the running maximum of that chunk. -/
def runAcc (s v : ℕ → Fin 256 → EReal) : ℕ → EReal
  | 0 => ∑ l, Ideal.exp2 (s 0 l - runMax s 0) * v 0 l
  | n + 1 => Ideal.exp2 (runMax s n - runMax s (n + 1)) * runAcc s v n
      + ∑ l, Ideal.exp2 (s (n + 1) l - runMax s (n + 1)) * v (n + 1) l

/-- Over real scores the running maximum is real. -/
theorem runMax_coe (σ : ℕ → Fin 256 → ℝ) : ∀ n, ∃ r : ℝ, runMax (fun k l => (σ k l : EReal)) n = r
  | 0 => fold_max_coe (σ 0)
  | n + 1 => by
    obtain ⟨a, ha⟩ := runMax_coe σ n
    obtain ⟨b, hb⟩ := fold_max_coe (σ (n + 1))
    exact ⟨max a b, by rw [runMax, ha, hb]; exact (EReal.coe_strictMono.monotone.map_max).symm⟩

/-- Over real scores the running sum after chunk `n` is the weighted sum over the keys seen so far, the weight of a
    key being two to the power of its score less the running maximum. -/
theorem runAcc_eq (σ : ℕ → Fin 256 → ℝ) : ∃ μ : ℕ → ℝ, ∀ (v : ℕ → Fin 256 → EReal) (n : ℕ),
    runAcc (fun k l => (σ k l : EReal)) v n
      = ∑ k ∈ Finset.range (n + 1), ∑ l, (((2 : ℝ) ^ (σ k l - μ n) : ℝ) : EReal) * v k l := by
  choose μ hμ using runMax_coe σ
  refine ⟨μ, fun v n => ?_⟩
  induction n with
  | zero => simp only [runAcc, hμ, ← EReal.coe_sub, exp2_coe, zero_add, Finset.sum_range_one]
  | succ n ih =>
    have h2 : (0 : ℝ) ≤ (2 : ℝ) ^ (μ n - μ (n + 1)) := (Real.rpow_pos_of_pos two_pos _).le
    rw [Finset.sum_range_succ, runAcc, ih]
    simp only [hμ, ← EReal.coe_sub, exp2_coe]
    congr 1
    rw [coe_mul_sum _ h2]
    refine Finset.sum_congr rfl fun k _ => ?_
    rw [coe_mul_sum _ h2]
    refine Finset.sum_congr rfl fun l _ => ?_
    rw [← mul_assoc, ← EReal.coe_mul, ← Real.rpow_add two_pos]
    congr 3
    ring

/-- Softmax in base two, as a quotient of two weighted sums, is softmax in base `e` with the weights divided first:
    `τ i` are the scores, in units of `e`, and `μ`, `μ'` any two numbers subtracted before taking powers. -/
theorem softmax_ratio {ι : Type*} [Fintype ι] [Nonempty ι] (τ : ι → ℝ) (v : ι → EReal) (μ μ' : ℝ) :
    Ideal.div (∑ i, (((2 : ℝ) ^ (τ i / Real.log 2 - μ) : ℝ) : EReal) * v i)
        (∑ i, (((2 : ℝ) ^ (τ i / Real.log 2 - μ) : ℝ) : EReal) * 1)
      = ∑ i, v i * Ideal.div ((Real.exp (τ i - μ') : ℝ) : EReal) (∑ k, ((Real.exp (τ k - μ') : ℝ) : EReal)) := by
  set C : ℝ := (2 : ℝ) ^ (-μ) * Real.exp μ' with hC
  have hCp : 0 < C := mul_pos (Real.rpow_pos_of_pos two_pos _) (Real.exp_pos _)
  have hl : Real.log 2 ≠ 0 := (Real.log_pos one_lt_two).ne'
  have hw : ∀ i, (2 : ℝ) ^ (τ i / Real.log 2 - μ) = C * Real.exp (τ i - μ') := fun i => by
    rw [hC, mul_assoc, ← Real.exp_add, sub_eq_neg_add, Real.rpow_add two_pos]
    congr 1
    rw [Real.rpow_def_of_pos two_pos]
    congr 1
    field_simp
    ring
  have hE : 0 < ∑ k, Real.exp (τ k - μ') := Finset.sum_pos (fun _ _ => Real.exp_pos _) Finset.univ_nonempty
  simp only [hw, mul_one]
  rw [sum_coe, sum_coe, ← Finset.mul_sum, div_coe (mul_pos hCp hE), mul_comm, coe_mul_sum _ (inv_pos.mpr (mul_pos hCp hE)).le]
  refine Finset.sum_congr rfl fun i _ => ?_
  rw [div_coe hE, ← mul_assoc, ← EReal.coe_mul, ← EReal.coe_mul, mul_comm]
  congr 2
  field_simp

/-- Sixteen chunks of 256 keys followed by one more chunk, against 4096 keys followed by 256. -/
theorem sum_chunks {M : Type*} [AddCommMonoid M] (h : ℕ → Fin 256 → M) (f : Fin 4096 → M) (g : Fin 256 → M)
    (hf : ∀ (k : Fin 4096), h (k.val / 256) ⟨k.val % 256, Nat.mod_lt _ (by decide)⟩ = f k) (hg : ∀ l, h 16 l = g l) :
    ∑ n ∈ Finset.range 17, ∑ l, h n l = ∑ k, f k + ∑ l, g l := by
  rw [Finset.sum_range_succ]
  congr 1
  · rw [Finset.sum_range, ← Fintype.sum_prod_type', ← (finProdFinEquiv (m := 16) (n := 256)).symm.sum_comp]
    exact Finset.sum_congr rfl fun k _ => hf k
  · exact Finset.sum_congr rfl fun l _ => hg l

end Cert.Attn

end
-- ==== Proof.AttnStep.lean ====
/-
  What one grid point of the attention kernel computes, as sixteen equal steps over the latent keys and one more over
  the context keys.

  The printed body spells every chunk out. `score`, `top`, `weigh`, `maxs` and `accs` say what one chunk does and
  iterate it over a sequence of key and value blocks; `block_eq` says that what the body stores is that iteration
  followed by one division (`ratio`). `maxs_apply` and `accs_apply` read the iteration at one row and one column,
  where it is the scalar recursion of Online.lean.
-/
module

public import proofs.«01_k».proof.Proof.Online
public import proofs.«01_k».proof.Proof.Gen.KernelIdeal.Frame
public import Idealize.ShloMosaic.Lib.Pointwise

@[expose] public section

set_option maxRecDepth 16384

noncomputable section

open Idealize.ShloMosaic
open Cert.KernelIdeal Cert.KernelIdeal.Gen

namespace Cert.Attn

section Steps

variable {F : FTy → Type} [FloatOps F]

/-- The scores of the point's 4096 query rows against one block of 256 keys. -/
def score (q : FVec F S4096x128 .bf16) (k : Vec F S1x1x256x128 .bf16) : FVec F S4096x256 .f32 :=
  matmul dot_S4096x128_S256x128_S4096x256_1_1_0_0_n_n none q
    (shapeCast S256x128 k shapeCasts_S1x1x256x128_S256x128) (constant S4096x256 .f32 0x00000000#32)

/-- The largest score of each row in one block. -/
def top (s : FVec F S4096x256 .f32) : FVec F S4096x1 .f32 :=
  shapeCast S4096x1 (multiReduction .maximumf [1] S4096 s 0xFF800000#32 reduces_S4096x256_S4096 (.inl rfl) rfl)
    shapeCasts_S4096_S4096x1

/-- The values of one block, weighted by two to the power of the scores less the maxima `m`. -/
def weigh (s : FVec F S4096x256 .f32) (m : FVec F S4096x1 .f32) (v : Vec F S1x1x256x256 .bf16) : FVec F S4096x256 .f32 :=
  matmul dot_S4096x256_S256x256_S4096x256_1_0_0_1_n_n none
    (truncf .bf16 (exp2 (subf s (broadcastTo S4096x256 m broadcasts_S4096x1_S4096x256))) bitsLt_bf16_f32)
    (shapeCast S256x256 v shapeCasts_S1x1x256x256_S256x256) (constant S4096x256 .f32 0x00000000#32)

/-- The running maxima after block `n`. -/
def maxs (q : FVec F S4096x128 .bf16) (K : ℕ → Vec F S1x1x256x128 .bf16) : ℕ → FVec F S4096x1 .f32
  | 0 => top (score q (K 0))
  | n + 1 => maximumf (maxs q K n) (top (score q (K (n + 1))))

/-- The running weighted sums after block `n`. -/
def accs (q : FVec F S4096x128 .bf16) (K : ℕ → Vec F S1x1x256x128 .bf16) (W : ℕ → Vec F S1x1x256x256 .bf16) :
    ℕ → FVec F S4096x256 .f32
  | 0 => weigh (score q (K 0)) (maxs q K 0) (W 0)
  | n + 1 => addf (mulf (broadcastTo S4096x256 (exp2 (subf (maxs q K n) (maxs q K (n + 1)))) broadcasts_S4096x1_S4096x256)
      (accs q K W n)) (weigh (score q (K (n + 1))) (maxs q K (n + 1)) (W (n + 1)))

/-- The left 128 columns of the sums divided by the right 128. -/
def ratio (a : FVec F S4096x256 .f32) : FVec F S4096x128 .f32 :=
  divf (extractStridedSlice S4096x128 ![0, 0] a slices_S4096x256_o0_0_S4096x128)
    (extractStridedSlice S4096x128 ![0, 128] a slices_S4096x256_o0_128_S4096x128)

theorem keys_inb (n : ℕ) (h : n < 16) : ∀ a, (![0, 0, 256 * n, 0] : Fin 4 → ℕ) a + S1x1x256x128.size a ≤ S1x1x4096x128.size a := by
  intro a
  fin_cases a
  · show 0 + 1 ≤ 1; omega
  · show 0 + 1 ≤ 1; omega
  · show 256 * n + 256 ≤ 4096; omega
  · show 0 + 128 ≤ 128; omega

theorem vals_inb (n : ℕ) (h : n < 16) : ∀ a, (![0, 0, 256 * n, 0] : Fin 4 → ℕ) a + S1x1x256x256.size a ≤ S1x1x4096x256.size a := by
  intro a
  fin_cases a
  · show 0 + 1 ≤ 1; omega
  · show 0 + 1 ≤ 1; omega
  · show 256 * n + 256 ≤ 4096; omega
  · show 0 + 256 ≤ 256; omega

/-- The blocks of keys in the order they are met: sixteen of the latents', then the context's. -/
def keys (x1 : Vec F S1x1x4096x128 .bf16) (x3 : Vec F S1x1x256x128 .bf16) (n : ℕ) : Vec F S1x1x256x128 .bf16 :=
  if h : n < 16 then View.ld x1 (Rect.unit (s := S1x1x4096x128) ![0, 0, 256 * n, 0] S1x1x256x128.size (keys_inb n h))
  else View.ld x3 r0_36

/-- The blocks of values, in the same order. -/
def vals (x2 : Vec F S1x1x4096x256 .bf16) (x4 : Vec F S1x1x256x256 .bf16) (n : ℕ) : Vec F S1x1x256x256 .bf16 :=
  if h : n < 16 then View.ld x2 (Rect.unit (s := S1x1x4096x256) ![0, 0, 256 * n, 0] S1x1x256x256.size (vals_inb n h))
  else View.ld x4 r0_37

section Block

variable (x0 : Vec F S1x4x1024x128 .bf16) (x1 : Vec F S1x1x4096x128 .bf16) (x2 : Vec F S1x1x4096x256 .bf16)
  (x3 : Vec F S1x1x256x128 .bf16) (x4 : Vec F S1x1x256x256 .bf16) (x5 x6 : Vec F S1x32x2048 .f32)
  (x7 : Vec F S1x64x8192 .f32) (x8 : Vec F S1x256x2048 .f32)

/-- The point's query rows, one head below the other. -/
def queries : FVec F S4096x128 .bf16 := k0_pay10 (View.ld x0 r0_3)

theorem pay60_eq : k0_pay60 x0 x1 x2 x3 x4 x5 x6 x7 x8 = maxs (queries x0) (keys x1 x3) 1 := rfl
theorem pay62_eq : k0_pay62 x0 x1 x2 x3 x4 x5 x6 x7 x8 = maxs (queries x0) (keys x1 x3) 3 := by
  unfold k0_pay62; rw [pay60_eq]; rfl
theorem pay64_eq : k0_pay64 x0 x1 x2 x3 x4 x5 x6 x7 x8 = maxs (queries x0) (keys x1 x3) 5 := by
  unfold k0_pay64; rw [pay62_eq]; rfl
theorem pay66_eq : k0_pay66 x0 x1 x2 x3 x4 x5 x6 x7 x8 = maxs (queries x0) (keys x1 x3) 8 := by
  unfold k0_pay66; rw [pay64_eq]; rfl
theorem pay67_eq : k0_pay67 x0 x1 x2 x3 x4 x5 x6 x7 x8 = maxs (queries x0) (keys x1 x3) 10 := by
  unfold k0_pay67; rw [pay66_eq]; rfl
theorem pay68_eq : k0_pay68 x0 x1 x2 x3 x4 x5 x6 x7 x8 = maxs (queries x0) (keys x1 x3) 12 := by
  unfold k0_pay68; rw [pay67_eq]; rfl
theorem pay69_eq : k0_pay69 x0 x1 x2 x3 x4 x5 x6 x7 x8 = maxs (queries x0) (keys x1 x3) 14 := by
  unfold k0_pay69; rw [pay68_eq]; rfl
theorem pay70_eq : k0_pay70 x0 x1 x2 x3 x4 x5 x6 x7 x8 = maxs (queries x0) (keys x1 x3) 15 := by
  unfold k0_pay70; rw [pay69_eq]; rfl
theorem pay72_eq : k0_pay72 x0 x1 x2 x3 x4 x5 x6 x7 x8 = maxs (queries x0) (keys x1 x3) 16 := by
  unfold k0_pay72; rw [pay69_eq]; rfl
theorem pay71_eq : k0_pay71 x0 x1 x2 x3 x4 x5 x6 x7 x8 = accs (queries x0) (keys x1 x3) (vals x2 x4) 15 := by
  unfold k0_pay71
  rw [pay60_eq, pay62_eq, pay64_eq, pay66_eq, pay67_eq, pay68_eq]
  rfl

/-- What the body divides and stores: the ratio of the sums after all seventeen blocks. -/
theorem block_eq : k0_pay1 (k0_pay70 x0 x1 x2 x3 x4 x5 x6 x7 x8) (k0_pay71 x0 x1 x2 x3 x4 x5 x6 x7 x8)
      (k0_pay72 x0 x1 x2 x3 x4 x5 x6 x7 x8) (k0_pay73 x0 x1 x2 x3 x4 x5 x6 x7 x8) (View.ld x4 r0_37)
    = ratio (accs (queries x0) (keys x1 x3) (vals x2 x4) 16) := by
  rw [pay70_eq, pay71_eq, pay72_eq]
  unfold k0_pay73
  rw [pay69_eq]
  rfl

end Block

end Steps

/-! ## Read at one row and one column -/

variable (q : FVec Ideal S4096x128 .bf16) (K : ℕ → Vec Ideal S1x1x256x128 .bf16) (W : ℕ → Vec Ideal S1x1x256x256 .bf16)

/-- The score of query row `r` against key `l` of block `n`. -/
def rowScore (r : Fin 4096) (n : ℕ) (l : Fin 256) : EReal := ∑ d : Fin 128, (q (ix2 r d) : EReal) * K n (ix4 0 0 l d)

theorem score_apply (n : ℕ) (r : Fin 4096) (l : Fin 256) : score q (K n) (ix2 r l) = rowScore q K r n l := by
  pointwise [score, rowScore]

/-- The word of minus infinity, from which a maximum starts. -/
theorem ofBits_neg_inf : Ideal.ofBits .f32 0xFF800000#32 = (⊥ : EReal) := by simp [Ideal.ofBits, Ideal.ieee]

theorem top_apply (s : FVec Ideal S4096x256 .f32) (r : Fin 4096) :
    top s (ix2 r 0) = Finset.univ.fold max (⊥ : EReal) fun l => s (ix2 r l) := by
  pointwise [top]
  rw [ofBits_neg_inf]

theorem weigh_apply (s : FVec Ideal S4096x256 .f32) (m : FVec Ideal S4096x1 .f32) (n : ℕ) (r : Fin 4096) (e : Fin 256) :
    weigh s m (W n) (ix2 r e) = ∑ l : Fin 256, Ideal.exp2 (s (ix2 r l) - m (ix2 r 0)) * W n (ix4 0 0 l e) := by
  pointwise [weigh]
  rfl

theorem maxs_apply (r : Fin 4096) : ∀ n, maxs q K n (ix2 r 0) = runMax (rowScore q K r) n
  | 0 => by simp only [maxs, runMax, top_apply, score_apply]
  | n + 1 => by
    have h := maxs_apply r n
    show max (maxs q K n (ix2 r 0)) (top (score q (K (n + 1))) (ix2 r 0)) = _
    simp only [runMax, h, top_apply, score_apply]

theorem accs_apply (r : Fin 4096) (e : Fin 256) :
    ∀ n, accs q K W n (ix2 r e) = runAcc (rowScore q K r) (fun n l => W n (ix4 0 0 l e)) n
  | 0 => by simp only [accs, runAcc, weigh_apply, maxs_apply, score_apply]
  | n + 1 => by
    have h := accs_apply r e n
    unfold accs
    pointwise
    rw [h, weigh_apply]
    simp only [runAcc, maxs_apply, score_apply]
    rfl

theorem ratio_apply (a : FVec Ideal S4096x256 .f32) (r : Fin 4096) (d : Fin 128) :
    ratio a (ix2 r d) = Ideal.div (a (ix2 r ⟨d.val, by omega⟩)) (a (ix2 r ⟨128 + d.val, by omega⟩)) := by
  pointwise [ratio]

end Cert.Attn

end
-- ==== Proof.AttnArray.lean ====
/-
  What the attention kernel's result array holds when it has run.

  `attention` states it for any arrays of queries, keys and values: at batch `b`, position `t` and column
  `128 * h + d` the running sum of head `h` over the values' column `d`, divided by the same sum over ones, both in
  the recursion of Online.lean. `final_attention` proves it: the point that computes a block reads the blocks of its
  batch and key-value head, and its four stores put the four heads of the group side by side.
-/
module

public import proofs.«01_k».proof.Proof.AttnStep
public import Idealize.ShloMosaic.Lib.Claim
public import Idealize.ShloMosaic.Lib.Pipeline.ValueKit

@[expose] public section

set_option maxRecDepth 16384

noncomputable section

open Idealize.ShloMosaic Idealize.ShloMosaic.TcCoe
open Cert.KernelIdeal Cert.KernelIdeal.Gen

namespace Cert.Attn

/-- The factor of the queries: one over the square root of 128 and the logarithm of two. -/
def qScale : EReal := Ideal.div 1 (Ideal.sqrt (Ideal.ofBits .f32 0x43000000#32) * Ideal.log (Ideal.ofBits .f32 0x40000000#32))

/-- Entry `d` of key (or value) `l` of chunk `n`, of key-value head `j`: from the latents for sixteen chunks, then from
    the context. -/
def chunked (lat : S4x4096x4x128.Idx → EReal) (ctx : S4x256x4x128.Idx → EReal) (b j : Fin 4) (n : ℕ) (l : Fin 256)
    (d : Fin 128) : EReal :=
  if h : n < 16 then lat (ix4 b ⟨256 * n + l.val, by omega⟩ j d) else ctx (ix4 b l j d)

/-- The score, in units of the logarithm of two, of the query of head `h` at position `t` against key `l` of chunk `n`. -/
def headScore (q : S4x4096x16x128.Idx → EReal) (kl : S4x4096x4x128.Idx → EReal) (kc : S4x256x4x128.Idx → EReal)
    (b : Fin 4) (t : Fin 4096) (h : Fin 16) (n : ℕ) (l : Fin 256) : EReal :=
  ∑ d : Fin 128, q (ix4 b t h d) * qScale * chunked kl kc b ⟨h.val / 4, by omega⟩ n l d

/-- One entry of the attention: batch `b`, position `t`, head `h`, column `d`. -/
def attnAt (q : S4x4096x16x128.Idx → EReal) (kl vl : S4x4096x4x128.Idx → EReal) (kc vc : S4x256x4x128.Idx → EReal)
    (b : Fin 4) (t : Fin 4096) (h : Fin 16) (d : Fin 128) : EReal :=
  Ideal.div (runAcc (headScore q kl kc b t h) (fun n l => chunked vl vc b ⟨h.val / 4, by omega⟩ n l d) 16)
    (runAcc (headScore q kl kc b t h) (fun _ _ => 1) 16)

/-- The attention's whole array. -/
def attention (q : S4x4096x16x128.Idx → EReal) (kl vl : S4x4096x4x128.Idx → EReal) (kc vc : S4x256x4x128.Idx → EReal)
    (i : S4x4096x2048.Idx) : EReal :=
  attnAt q kl vl kc vc (i 0) (i 1) ⟨(i 2).val / 128, by have : (i 2).val < 2048 := (i 2).isLt; omega⟩
    ⟨(i 2).val % 128, Nat.mod_lt _ (by decide)⟩

/-! ## One block -/

section Block

variable (x0 : Vec Ideal S1x4x1024x128 .bf16) (x1 : Vec Ideal S1x1x4096x128 .bf16) (x2 : Vec Ideal S1x1x4096x256 .bf16)
  (x3 : Vec Ideal S1x1x256x128 .bf16) (x4 : Vec Ideal S1x1x256x256 .bf16) (x5 x6 : Vec Ideal S1x32x2048 .f32)
  (x7 : Vec Ideal S1x64x8192 .f32) (x8 : Vec Ideal S1x256x2048 .f32)

theorem out_apply (y : S1x1024x512.Idx) (r : Fin 4096) (d : Fin 128) (hr : r.val = (y 2).val / 128 * 1024 + (y 1).val)
    (hd : d.val = (y 2).val % 128) :
    out0_9 x0 x1 x2 x3 x4 x5 x6 x7 x8 y = ratio (accs (queries x0) (keys x1 x3) (vals x2 x4) 16) (ix2 r d) := by
  unfold out0_9 k0_pay2 k0_pay3 k0_pay4 k0_pay5
  rw [block_eq]
  generalize ratio (accs (queries x0) (keys x1 x3) (vals x2 x4) 16) = A
  canon_tiles x h
  all_goals
    pointwise
    refine congrArg A ?_
    idx_vars x
    congr 1 <;> (apply Fin.ext; simp at *; omega)

theorem queries_apply (r : Fin 4096) (d : Fin 128) :
    queries x0 (ix2 r d) = x0 (ix4 0 ⟨r.val / 1024, by omega⟩ ⟨r.val % 1024, Nat.mod_lt _ (by decide)⟩ d) := by
  pointwise [queries, k0_pay10]

theorem keys_apply (n : ℕ) (l : Fin 256) (d : Fin 128) : keys x1 x3 n (ix4 0 0 l d)
    = if h : n < 16 then x1 (ix4 0 0 ⟨256 * n + l.val, by omega⟩ d) else x3 (ix4 0 0 l d) := by
  unfold keys
  split <;> pointwise

theorem vals_apply (n : ℕ) (l : Fin 256) (e : Fin 256) : vals x2 x4 n (ix4 0 0 l e)
    = if h : n < 16 then x2 (ix4 0 0 ⟨256 * n + l.val, by omega⟩ e) else x4 (ix4 0 0 l e) := by
  unfold vals
  split <;> pointwise

end Block

/-! ## The arrays that the region is entered with -/

variable (m : (ℓ : Loc nD τ sig) → Buf (Elt Ideal) ℓ) (c : Dev nD)

/-- The five arguments of the attention, as arrays of extended reals. -/
abbrev argQ : S4x4096x16x128.Idx → EReal := m ((c : Thread nD τ).loc main_arg0)
abbrev argKL : S4x4096x4x128.Idx → EReal := m ((c : Thread nD τ).loc main_arg1)
abbrev argVL : S4x4096x4x128.Idx → EReal := m ((c : Thread nD τ).loc main_arg2)
abbrev argKC : S4x256x4x128.Idx → EReal := m ((c : Thread nD τ).loc main_arg3)
abbrev argVC : S4x256x4x128.Idx → EReal := m ((c : Thread nD τ).loc main_arg4)

theorem entry_q (b : Fin 4) (h : Fin 16) (t : Fin 4096) (d : Fin 128) :
    V m c main_v7 (ix4 b h t d) = argQ m c (ix4 b t h d) * qScale := by
  entry_read
  pointwise [qScale]

theorem entry_kl (b j : Fin 4) (t : Fin 4096) (d : Fin 128) :
    V m c main_v9 (ix4 b j t d) = argKL m c (ix4 b t j d) := by
  entry_read
  pointwise

theorem entry_kc (b j : Fin 4) (t : Fin 256) (d : Fin 128) :
    V m c main_v13 (ix4 b j t d) = argKC m c (ix4 b t j d) := by
  entry_read
  pointwise

theorem entry_vl (b j : Fin 4) (t : Fin 4096) (e : Fin 256) :
    V m c main_v17 (ix4 b j t e)
      = if h : e.val < 128 then argVL m c (ix4 b t j ⟨e.val, h⟩) else (1 : EReal) := by
  entry_read
  pointwise

theorem entry_vc (b j : Fin 4) (t : Fin 256) (e : Fin 256) :
    V m c main_v19 (ix4 b j t e)
      = if h : e.val < 128 then argVC m c (ix4 b t j ⟨e.val, h⟩) else (1 : EReal) := by
  entry_read
  pointwise

/-- Which blocks point `t` reads and writes. -/
theorem blocks_at : ∀ t : Fin grid0.N, win0_0.index t = ![t.val / 16, t.val / 4 % 4, t.val % 4, 0]
    ∧ win0_1.index t = ![t.val / 16, t.val / 4 % 4, 0, 0] ∧ win0_2.index t = ![t.val / 16, t.val / 4 % 4, 0, 0]
    ∧ win0_3.index t = ![t.val / 16, t.val / 4 % 4, 0, 0] ∧ win0_4.index t = ![t.val / 16, t.val / 4 % 4, 0, 0]
    ∧ win0_9.index t = ![t.val / 16, t.val % 4, t.val / 4 % 4] := by decide +kernel

theorem point_lt (t : Fin cfg0.N) : t.val < 64 := t.isLt.trans_eq N_0

section Point

variable (t : Fin cfg0.N) (b j i : Fin 4) (hb : b.val = t.val / 16) (hj : j.val = t.val / 4 % 4) (hi : i.val = t.val % 4)

include hb hj hi in
theorem iblk_q (g : Fin 4) (r : Fin 1024) (d : Fin 128) : iblk m c 0 t (ix4 0 g r d)
    = argQ m c (ix4 b ⟨i.val * 1024 + r.val, by omega⟩ ⟨j.val * 4 + g.val, by omega⟩ d) * qScale := by
  rw [← entry_q]
  blk_ext [iblk, blocks_at t]

include hb hj in
theorem iblk_kl (k : Fin 4096) (d : Fin 128) : iblk m c 1 t (ix4 0 0 k d) = argKL m c (ix4 b k j d) := by
  rw [← entry_kl]
  blk_ext [iblk, blocks_at t]

include hb hj in
theorem iblk_kc (k : Fin 256) (d : Fin 128) : iblk m c 3 t (ix4 0 0 k d) = argKC m c (ix4 b k j d) := by
  rw [← entry_kc]
  blk_ext [iblk, blocks_at t]

include hb hj in
theorem iblk_vl (k : Fin 4096) (e : Fin 256) : iblk m c 2 t (ix4 0 0 k e)
    = if h : e.val < 128 then argVL m c (ix4 b k j ⟨e.val, h⟩) else (1 : EReal) := by
  rw [← entry_vl]
  blk_ext [iblk, blocks_at t]

include hb hj in
theorem iblk_vc (k : Fin 256) (e : Fin 256) : iblk m c 4 t (ix4 0 0 k e)
    = if h : e.val < 128 then argVC m c (ix4 b k j ⟨e.val, h⟩) else (1 : EReal) := by
  rw [← entry_vc]
  blk_ext [iblk, blocks_at t]

include hb hj in
/-- The point's key blocks are the chunks of its batch and key-value head. -/
theorem keys_block (n : ℕ) (l : Fin 256) (d : Fin 128) :
    keys (iblk m c 1 t) (iblk m c 3 t) n (ix4 0 0 l d) = chunked (argKL m c) (argKC m c) b j n l d := by
  rw [keys_apply]
  unfold chunked
  split
  · exact iblk_kl m c t b j hb hj _ _
  · exact iblk_kc m c t b j hb hj _ _

include hb hj in
/-- The left half of the point's value blocks is the chunks of the values. -/
theorem vals_block (n : ℕ) (l : Fin 256) (e : Fin 256) (d : Fin 128) (h : e.val = d.val) :
    vals (iblk m c 2 t) (iblk m c 4 t) n (ix4 0 0 l e) = chunked (argVL m c) (argVC m c) b j n l d := by
  have he : e.val < 128 := h ▸ d.isLt
  obtain rfl : d = ⟨e.val, he⟩ := Fin.ext h.symm
  rw [vals_apply]
  unfold chunked
  split
  · exact (iblk_vl m c t b j hb hj _ _).trans (dif_pos he)
  · exact (iblk_vc m c t b j hb hj _ _).trans (dif_pos he)

include hb hj in
/-- The right half is ones. -/
theorem vals_ones (n : ℕ) (l : Fin 256) (e : Fin 256) (h : 128 ≤ e.val) :
    vals (iblk m c 2 t) (iblk m c 4 t) n (ix4 0 0 l e) = (1 : EReal) := by
  rw [vals_apply]
  split
  · exact (iblk_vl m c t b j hb hj _ _).trans (dif_neg (by omega))
  · exact (iblk_vc m c t b j hb hj _ _).trans (dif_neg (by omega))

include hb hj hi in
/-- The point's scores are those of the heads of its group at its positions. -/
theorem score_block (r : Fin 4096) (p : Fin 4096) (h : Fin 16) (hp : p.val = i.val * 1024 + r.val % 1024)
    (hh : h.val = j.val * 4 + r.val / 1024) :
    rowScore (queries (iblk m c 0 t)) (keys (iblk m c 1 t) (iblk m c 3 t)) r
      = headScore (argQ m c) (argKL m c) (argKC m c) b p h := by
  have hq : (⟨h.val / 4, by omega⟩ : Fin 4) = j := Fin.ext (by show h.val / 4 = j.val; omega)
  funext n l
  unfold rowScore headScore
  refine Finset.sum_congr rfl fun d _ => ?_
  rw [keys_block m c t b j hb hj, hq, queries_apply, iblk_q m c t b j i hb hj hi]
  congr 3
  exact congrArg₂ (fun x y => ix4 b x y d) (Fin.ext hp.symm) (Fin.ext hh.symm)

end Point

/-- The result array after the run is the attention of the arguments. -/
theorem final_attention : (dats m 0 c).arrAt 9 cfg0.N
    = attention (argQ m c) (argKL m c) (argVL m c) (argKC m c) (argVC m c) := by
  refine (dats m 0 c).arrAt_eq_of_covers 9 _ (by decide +kernel) fun t hf y => ?_
  blk_simp
  rw [after0_9]
  have ht := point_lt t
  have hy1 : (y 1).val < 1024 := (y 1).isLt
  have hy2 : (y 2).val < 512 := (y 2).isLt
  set x := (win0_9.blk t).view.emb y with hx
  have hx0 : (x 0).val = t.val / 16 := by
    have hy0 : (y 0).val < 1 := (y 0).isLt
    rw [hx]; blk_simp [blocks_at t]
  have hx1 : (x 1).val = t.val % 4 * 1024 + (y 1).val := by rw [hx]; blk_simp [blocks_at t]
  have hx2 : (x 2).val = t.val / 4 % 4 * 512 + (y 2).val := by rw [hx]; blk_simp [blocks_at t]
  let b : Fin 4 := ⟨t.val / 16, by omega⟩
  let j : Fin 4 := ⟨t.val / 4 % 4, by omega⟩
  let i : Fin 4 := ⟨t.val % 4, by omega⟩
  let r : Fin 4096 := ⟨(y 2).val / 128 * 1024 + (y 1).val, by omega⟩
  let d : Fin 128 := ⟨(y 2).val % 128, by omega⟩
  let h : Fin 16 := ⟨(x 2).val / 128, by omega⟩
  have hd : (⟨(x 2).val % 128, Nat.mod_lt _ (by decide)⟩ : Fin 128) = d := Fin.ext (by show (x 2).val % 128 = (y 2).val % 128; omega)
  have hj : (⟨h.val / 4, by omega⟩ : Fin 4) = j := Fin.ext (by show (x 2).val / 128 / 4 = t.val / 4 % 4; omega)
  have hs := score_block m c t b j i rfl rfl rfl r (x 1) h
    (hx1.trans (by show _ = t.val % 4 * 1024 + ((y 2).val / 128 * 1024 + (y 1).val) % 1024; omega))
    (by show (x 2).val / 128 = t.val / 4 % 4 * 4 + ((y 2).val / 128 * 1024 + (y 1).val) / 1024; omega)
  have hb : x 0 = b := Fin.ext hx0
  refine (out_apply _ _ _ _ _ _ _ _ _ y r d rfl rfl).trans ?_
  rw [ratio_apply, accs_apply, accs_apply, hs]
  show _ = attnAt _ _ _ _ _ (x 0) (x 1) h ⟨(x 2).val % 128, _⟩
  rw [hd, hb]
  unfold attnAt
  rw [hj]
  congr 2
  · funext n l
    exact vals_block m c t b j rfl rfl n l _ d rfl
  · funext n l
    exact vals_ones m c t b j rfl rfl n l _ (by simp)

end Cert.Attn

end
-- ==== Proof.AttnStages.lean ====
/-
  The stages of the attention's reference.

  The reference is the plain formula: all scores of a query, divided by the square root of 128, their softmax, and
  the mean of the values under it. The definitions name its stages (`scores`, `peak`, `powers`, `shares`, `mean`);
  `stages_eq` says that the reference's result is their composition.
-/
module

public import proofs.«01_k».proof.Proof.Gen.ReferenceIdeal.Run

@[expose] public section

set_option maxRecDepth 16384

noncomputable section

open Idealize.ShloMosaic Idealize.ShloMosaic.TcCoe
open Cert.ReferenceIdeal Cert.ReferenceIdeal.Gen

namespace Cert.AttnRef

section Stages

variable {F : FTy → Type} [FloatOps F]

/-- The scores of every query against the 4096 latent keys and the 256 context keys of its group. -/
def scores (q : FVec F S4x4096x16x128 .f32) (kl : FVec F S4x4096x4x128 .f32) (kc : FVec F S4x256x4x128 .f32) :
    FVec F S4x4x4x4096x4352 .f32 :=
  Host.divf (concatenate S4x4x4x4096x4352 4
      [⟨S4x4x4x4096x4096, transpose S4x4x4x4096x4096 [0, 1, 4, 3, 2]
        (Host.dotGeneral dot_S4x4096x4x128_S4x4096x4x4x128_S4x4x4096x4096x4_3_4_1_13_02_02 none kl
          (shapeCast _ q shapeCasts_S4x4096x16x128_S4x4096x4x4x128)) transposes_S4x4x4096x4096x4_S4x4x4x4096x4096_0_1_4_3_2⟩,
       ⟨S4x4x4x4096x256, transpose S4x4x4x4096x256 [0, 1, 4, 3, 2]
        (Host.dotGeneral dot_S4x256x4x128_S4x4096x4x4x128_S4x4x256x4096x4_3_4_1_13_02_02 none kc
          (shapeCast _ q shapeCasts_S4x4096x16x128_S4x4096x4x4x128)) transposes_S4x4x256x4096x4_S4x4x4x4096x256_0_1_4_3_2⟩]
      concatenates_S4x4x4x4096x4096_S4x4x4x4096x256_S4x4x4x4096x4352_d4)
    (broadcastInDim S4x4x4x4096x4352 ![] bcast_S_S4x4x4x4096x4352 (Host.sqrt (constant S_ .f32 0x43000000#32)))

/-- The largest score of each query. -/
def peak (s : FVec F S4x4x4x4096x4352 .f32) : FVec F S4x4x4x4096 .f32 :=
  Host.reduce FloatOps.maximumf s (constant S_ .f32 0xFF800000#32) reducesTo_S4x4x4x4096x4352_S4x4x4x4096_d4 h_S_

/-- The larger of each number and minus infinity. -/
def capped (x : FVec F S4x4x4x4096 .f32) : FVec F S4x4x4x4096 .f32 :=
  maximumf (broadcastInDim S4x4x4x4096 ![] bcast_S_S4x4x4x4096 (constant S_ .f32 0xFF800000#32)) x

/-- One number per query, repeated along its keys. -/
def along (x : FVec F S4x4x4x4096 .f32) : FVec F S4x4x4x4096x4352 .f32 :=
  broadcastInDim S4x4x4x4096x4352 ![0, 1, 2, 3, 4] bcast_S4x4x4x4096x1_S4x4x4x4096x4352_0_1_2_3_4
    (broadcastInDim S4x4x4x4096x1 ![0, 1, 2, 3] bcast_S4x4x4x4096_S4x4x4x4096x1_0_1_2_3 x)

/-- The exponentials of the scores less their maximum. -/
def powers (s : FVec F S4x4x4x4096x4352 .f32) : FVec F S4x4x4x4096x4352 .f32 := Host.exp (subf s (along (capped (peak s))))

/-- The softmax: the exponentials divided by their sum. -/
def shares (e : FVec F S4x4x4x4096x4352 .f32) : FVec F S4x4x4x4096x4352 .f32 :=
  Host.divf e (along (Host.reduceAdd e (constant S_ .f32 0x00000000#32) reducesTo_S4x4x4x4096x4352_S4x4x4x4096_d4 h_S_))

/-- The mean of the values, latents' and context's, under the softmax. -/
def mean (p : FVec F S4x4x4x4096x4352 .f32) (vl : FVec F S4x4096x4x128 .f32) (vc : FVec F S4x256x4x128 .f32) :
    FVec F S4x4096x2048 .bf16 :=
  truncf .bf16 (shapeCast _ (addf
      (transpose S4x4096x4x4x128 [0, 4, 1, 3, 2]
        (Host.dotGeneral dot_S4x4096x4x128_S4x4x4x4096x4096_S4x4x128x4x4096_1_4_3_23_02_01 none vl
          (extractStridedSlice S4x4x4x4096x4096 ![0, 0, 0, 0, 0] p slices_S4x4x4x4096x4352_S4x4x4x4096x4096_0_0_0_0_0))
        transposes_S4x4x128x4x4096_S4x4096x4x4x128_0_4_1_3_2)
      (transpose S4x4096x4x4x128 [0, 4, 1, 3, 2]
        (Host.dotGeneral dot_S4x256x4x128_S4x4x4x4096x256_S4x4x128x4x4096_1_4_3_23_02_01 none vc
          (extractStridedSlice S4x4x4x4096x256 ![0, 0, 0, 0, 4096] p slices_S4x4x4x4096x4352_S4x4x4x4096x256_0_0_0_0_4096))
        transposes_S4x4x128x4x4096_S4x4096x4x4x128_0_4_1_3_2)) shapeCasts_S4x4096x4x4x128_S4x4096x2048) bitsLt_bf16_f32

variable (m : (ℓ : Loc nD τ sig) → Buf (Elt F) ℓ) (c : Dev nD)

theorem stages_eq : Value.res_out0 m c = mean (shares (powers (scores (m ((c.tc : Thread nD τ).loc main_arg0))
    (m ((c.tc : Thread nD τ).loc main_arg1)) (m ((c.tc : Thread nD τ).loc main_arg3)))))
    (m ((c.tc : Thread nD τ).loc main_arg2)) (m ((c.tc : Thread nD τ).loc main_arg4)) := rfl

end Stages

end Cert.AttnRef

end
-- ==== Proof.AttnReads.lean ====
/-
  The stages of the attention's reference, each read at one entry.
-/
module

public import proofs.«01_k».proof.Proof.AttnStages
public import Idealize.ShloMosaic.Lib.Pointwise

@[expose] public section

set_option maxRecDepth 16384

noncomputable section

open Idealize.ShloMosaic Idealize.ShloMosaic.TcCoe
open Cert.ReferenceIdeal Cert.ReferenceIdeal.Gen

namespace Cert.AttnRef

variable (q : FVec Ideal S4x4096x16x128 .f32) (kl vl : FVec Ideal S4x4096x4x128 .f32) (kc vc : FVec Ideal S4x256x4x128 .f32)
variable (s p : FVec Ideal S4x4x4x4096x4352 .f32) (b j g : Fin 4) (t : Fin 4096)

theorem scores_lat (k : Fin 4096) : scores q kl kc (ix5 b j g t ⟨k.val, by omega⟩)
    = Ideal.div (∑ d : Fin 128, (kl (ix4 b k j d) : EReal) * q (ix4 b t ⟨j.val * 4 + g.val, by omega⟩ d))
        (Ideal.sqrt (Ideal.ofBits .f32 0x43000000#32)) := by
  pointwise [scores]

theorem scores_ctx (k : Fin 256) : scores q kl kc (ix5 b j g t ⟨4096 + k.val, by omega⟩)
    = Ideal.div (∑ d : Fin 128, (kc (ix4 b k j d) : EReal) * q (ix4 b t ⟨j.val * 4 + g.val, by omega⟩ d))
        (Ideal.sqrt (Ideal.ofBits .f32 0x43000000#32)) := by
  pointwise [scores]

theorem powers_apply (k : Fin 4352) :
    powers s (ix5 b j g t k) = Ideal.exp (s (ix5 b j g t k) - capped (peak s) (ix4 b j g t)) := by
  unfold powers
  generalize peak s = x
  generalize capped x = x
  pointwise [along]

theorem shares_apply (k : Fin 4352) :
    shares p (ix5 b j g t k) = Ideal.div (p (ix5 b j g t k)) (∑ k : Fin 4352, (p (ix5 b j g t k) : EReal)) := by
  pointwise [shares, along]

theorem mean_at (e : Fin 2048) : mean p vl vc (ix3 b t e)
    = ∑ k : Fin 4096, (vl (ix4 b k ⟨e.val / 512, by omega⟩ ⟨e.val % 128, by omega⟩) : EReal)
          * p (ix5 b ⟨e.val / 512, by omega⟩ ⟨e.val / 128 % 4, by omega⟩ t ⟨k.val, by omega⟩)
      + ∑ k : Fin 256, (vc (ix4 b k ⟨e.val / 512, by omega⟩ ⟨e.val % 128, by omega⟩) : EReal)
          * p (ix5 b ⟨e.val / 512, by omega⟩ ⟨e.val / 128 % 4, by omega⟩ t ⟨4096 + k.val, by omega⟩) := by
  pointwise [mean]

theorem mean_apply (e : Fin 2048) (d : Fin 128) (he : e.val = (j.val * 4 + g.val) * 128 + d.val) : mean p vl vc (ix3 b t e)
    = ∑ k : Fin 4096, (vl (ix4 b k j d) : EReal) * p (ix5 b j g t ⟨k.val, by omega⟩)
      + ∑ k : Fin 256, (vc (ix4 b k j d) : EReal) * p (ix5 b j g t ⟨4096 + k.val, by omega⟩) := by
  have hj : (⟨e.val / 512, by omega⟩ : Fin 4) = j := Fin.ext (by dsimp only; omega)
  have hg : (⟨e.val / 128 % 4, by omega⟩ : Fin 4) = g := Fin.ext (by dsimp only; omega)
  have hd : (⟨e.val % 128, by omega⟩ : Fin 128) = d := Fin.ext (by dsimp only; omega)
  rw [mean_at, hj, hg, hd]

end Cert.AttnRef

end
-- ==== Proof.AttnPeak.lean ====
/-
  The largest score of a query is a real number when the scores are.
-/
module

public import proofs.«01_k».proof.Proof.AttnStages
public import proofs.«01_k».proof.Proof.AttnStep

@[expose] public section

set_option maxRecDepth 16384

noncomputable section

open Idealize.ShloMosaic Idealize.ShloMosaic.TcCoe
open Cert.ReferenceIdeal Cert.ReferenceIdeal.Gen

namespace Cert.AttnRef

/-- A maximum over finitely many real numbers, at least one, is real: on the host, over one axis. -/
theorem reduce_max_real {s t u : Shape} {a : Fin s.rank} (x : FVec Ideal s .f32) (init : FVec Ideal u .f32)
    (h' : s.ReducesTo [a] t) (h : s.Reduces [a] t) (hu : 0 < u.numel) (ha : 0 < s.size a)
    (hi : init (Shape.Idx.first hu) = (⊥ : EReal)) (hx : ∀ i, ∃ r : ℝ, (x i : EReal) = r) (j : t.Idx) :
    ∃ r : ℝ, (Host.reduce (FloatOps.maximumf (F := Ideal) (φ := .f32)) x init h' hu j : EReal) = r := by
  choose f hf using hx
  obtain rfl : x = fun i => (f i : EReal) := funext hf
  rw [Host.reduce_eq_fold_single _ _ _ _ h, hi]
  obtain ⟨n, hn⟩ : ∃ n, s.size a = n + 1 := ⟨s.size a - 1, by omega⟩
  generalize (h.lift j) = lift
  revert lift
  rw [hn]
  exact fun lift => Cert.Attn.fold_max_coe fun k => f (lift k)

theorem const_apply {u : Shape} (w : BitVec 32) (i : u.Idx) :
    (constant (F := Ideal) u .f32 w i : EReal) = Ideal.ofBits .f32 w := rfl

/-- Over real scores the largest score of a query is real. -/
theorem peak_real (s : FVec Ideal S4x4x4x4096x4352 .f32) (hs : ∀ i, ∃ r : ℝ, (s i : EReal) = r) (i : S4x4x4x4096.Idx) :
    ∃ r : ℝ, (peak s i : EReal) = r :=
  reduce_max_real s (constant (F := Ideal) S_ .f32 0xFF800000#32) reducesTo_S4x4x4x4096x4352_S4x4x4x4096_d4 (by decide) h_S_
    (by decide) ((const_apply _ _).trans Cert.Attn.ofBits_neg_inf) hs i

theorem capped_apply (x : FVec Ideal S4x4x4x4096 .f32) (i : S4x4x4x4096.Idx) : (capped x i : EReal) = x i := by
  have h : ∀ (w : BitVec 32) (b : S_.BroadcastsInDim S4x4x4x4096 ![]) (y : EReal), (FloatOps.maximumf (F := Ideal) (φ := .f32)
      (broadcastInDim S4x4x4x4096 ![] b (constant (F := Ideal) S_ .f32 w) i) y : EReal)
      = max (Ideal.ofBits .f32 w) y := fun _ _ _ => rfl
  refine (h _ _ _).trans ?_
  rw [Cert.Attn.ofBits_neg_inf]
  exact max_eq_right bot_le

end Cert.AttnRef

end
-- ==== Proof.AttnEq.lean ====
/-
  The equation of the attention: over real queries and keys what the kernel's array holds is what the reference's
  formula gives.

  Both sides are rewritten over the 4096 latent keys and the 256 context keys of a query. The kernel's scores are the
  reference's divided by the logarithm of two, so that two to their power is the exponential; the kernel's running
  maximum and the reference's maximum are two real numbers that cancel from the quotient (Online.lean).
-/
module

public import proofs.«01_k».proof.Proof.AttnArray
public import proofs.«01_k».proof.Proof.AttnReads
public import proofs.«01_k».proof.Proof.AttnPeak

@[expose] public section

set_option maxRecDepth 16384

noncomputable section

open Idealize.ShloMosaic Idealize.ShloMosaic.TcCoe
open Cert.ReferenceIdeal Cert.ReferenceIdeal.Gen
open Cert.Attn

namespace Cert.AttnRef

theorem sqrt_width : Ideal.sqrt (Ideal.ofBits .f32 0x43000000#32) = ((√128 : ℝ) : EReal) := by
  have h : Ideal.ofBits .f32 0x43000000#32 = ((128 : ℝ) : EReal) := by
    simp [Ideal.ofBits, Ideal.ieee]; rw [← EReal.coe_mul]; norm_num
  rw [h]
  exact if_neg (by norm_num)

theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee]; rw [← EReal.coe_mul]; norm_num
  rw [h]
  exact if_neg (by norm_num)

theorem width_pos : (0 : ℝ) < √128 := Real.sqrt_pos.mpr (by norm_num)

theorem log_two_pos : (0 : ℝ) < Real.log 2 := Real.log_pos one_lt_two

theorem qScale_eq : qScale = (((√128 * Real.log 2)⁻¹ : ℝ) : EReal) := by
  rw [qScale, sqrt_width, log_two, ← EReal.coe_mul, div_coe (mul_pos width_pos log_two_pos), one_mul]

/-- The entries of the keys of both arrays, latents' and context's. -/
def keyOf (L : S4x4096x4x128.Idx → ℝ) (C : S4x256x4x128.Idx → ℝ) (b j : Fin 4) (d : Fin 128) : Fin 4096 ⊕ Fin 256 → ℝ
  | .inl k => L (ix4 b k j d)
  | .inr k => C (ix4 b k j d)

/-- The real score of a query against a key: their product over the square root of 128. -/
def logit (Q : S4x4096x16x128.Idx → ℝ) (L : S4x4096x4x128.Idx → ℝ) (C : S4x256x4x128.Idx → ℝ) (b j : Fin 4)
    (h : Fin 16) (t : Fin 4096) (k : Fin 4096 ⊕ Fin 256) : ℝ :=
  (∑ d : Fin 128, keyOf L C b j d k * Q (ix4 b t h d)) / √128

/-- The position of a key in the row of scores. -/
def slot : Fin 4096 ⊕ Fin 256 → Fin 4352
  | .inl k => ⟨k.val, by omega⟩
  | .inr k => ⟨4096 + k.val, by omega⟩

theorem exists_slot (k : Fin 4352) : ∃ i, slot i = k :=
  if h : k.val < 4096 then ⟨.inl ⟨k.val, h⟩, rfl⟩
  else ⟨.inr ⟨k.val - 4096, by omega⟩, Fin.ext (by show 4096 + (k.val - 4096) = k.val; omega)⟩

theorem sum_slot (f : Fin 4352 → EReal) : ∑ k, f k = ∑ i, f (slot i) := by
  rw [Fintype.sum_sum_type]
  exact Fin.sum_univ_add (a := 4096) (b := 256) f

section Real

variable (Q : S4x4096x16x128.Idx → ℝ) (L : S4x4096x4x128.Idx → ℝ) (C : S4x256x4x128.Idx → ℝ)

theorem scores_coe (b j g : Fin 4) (t : Fin 4096) (k : Fin 4096 ⊕ Fin 256) :
    scores (F := Ideal) (fun i => (Q i : EReal)) (fun i => (L i : EReal)) (fun i => (C i : EReal)) (ix5 b j g t (slot k))
      = ((logit Q L C b j ⟨j.val * 4 + g.val, by omega⟩ t k : ℝ) : EReal) := by
  cases k with
  | inl k =>
    refine (scores_lat _ _ _ b j g t k).trans ?_
    rw [sqrt_width, div_coe width_pos]
    simp only [← EReal.coe_mul, sum_coe]
    rfl
  | inr k =>
    refine (scores_ctx _ _ _ b j g t k).trans ?_
    rw [sqrt_width, div_coe width_pos]
    simp only [← EReal.coe_mul, sum_coe]
    rfl

theorem scores_real (i : S4x4x4x4096x4352.Idx) :
    ∃ r : ℝ, (scores (F := Ideal) (fun i => (Q i : EReal)) (fun i => (L i : EReal)) (fun i => (C i : EReal)) i : EReal) = r := by
  obtain ⟨k, hk⟩ := exists_slot (i 4)
  have hi : i = ix5 (i 0) (i 1) (i 2) (i 3) (slot k) := by
    rw [hk]; funext a; fin_cases a <;> rfl
  rw [hi]
  exact ⟨_, scores_coe Q L C _ _ _ _ k⟩

/-- The kernel's score of a query against a key of a chunk is the reference's, divided by the logarithm of two. -/
theorem headScore_coe (b : Fin 4) (t : Fin 4096) (h : Fin 16) :
    headScore (fun i => (Q i : EReal)) (fun i => (L i : EReal)) (fun i => (C i : EReal)) b t h
      = fun n l => ((logit Q L C b ⟨h.val / 4, by omega⟩ h t
          (if hn : n < 16 then .inl ⟨256 * n + l.val, by omega⟩ else .inr l) / Real.log 2 : ℝ) : EReal) := by
  funext n l
  have e : ∀ κ : Fin 128 → ℝ, ∑ d, (Q (ix4 b t h d) : EReal) * qScale * (κ d : EReal)
      = (((∑ d, κ d * Q (ix4 b t h d)) / √128 / Real.log 2 : ℝ) : EReal) := fun κ => by
    simp only [qScale_eq, ← EReal.coe_mul, sum_coe]
    rw [div_div, div_eq_mul_inv, Finset.sum_mul]
    exact congrArg _ (Finset.sum_congr rfl fun d _ => by ring)
  unfold headScore chunked logit
  by_cases hn : n < 16
  · simp only [dif_pos hn]
    exact e _
  · simp only [dif_neg hn]
    exact e _

variable (vl : S4x4096x4x128.Idx → EReal) (vc : S4x256x4x128.Idx → EReal)

/-- The values of a key-value head, at one column. -/
def valueOf (b j : Fin 4) (d : Fin 128) : Fin 4096 ⊕ Fin 256 → EReal
  | .inl k => vl (ix4 b k j d)
  | .inr k => vc (ix4 b k j d)

/-- A running sum after all seventeen chunks is one sum over the keys. -/
theorem run_eq (τ : Fin 4096 ⊕ Fin 256 → ℝ) (ν : ℝ) (v : ℕ → Fin 256 → EReal) (w : Fin 4096 ⊕ Fin 256 → EReal)
    (hl : ∀ k : Fin 4096, v (k.val / 256) ⟨k.val % 256, Nat.mod_lt _ (by decide)⟩ = w (.inl k))
    (hc : ∀ k : Fin 256, v 16 k = w (.inr k)) :
    ∑ n ∈ Finset.range 17, ∑ l : Fin 256, (((2 : ℝ) ^ (τ (if hn : n < 16 then .inl ⟨256 * n + l.val, by omega⟩ else .inr l)
        / Real.log 2 - ν) : ℝ) : EReal) * v n l
      = ∑ i, (((2 : ℝ) ^ (τ i / Real.log 2 - ν) : ℝ) : EReal) * w i := by
  rw [Fintype.sum_sum_type]
  refine sum_chunks _ _ _ (fun k => ?_) fun l => ?_
  · have hk : k.val / 256 < 16 := by omega
    have e : (⟨256 * (k.val / 256) + k.val % 256, by omega⟩ : Fin 4096) = k := Fin.ext (Nat.div_add_mod _ _)
    dsimp only
    rw [dif_pos hk, e, hl]
  · rw [dif_neg (by omega), hc]

theorem attnAt_eq (b j g : Fin 4) (t : Fin 4096) (e : Fin 2048) (d : Fin 128) (he : e.val = (j.val * 4 + g.val) * 128 + d.val) :
    attnAt (fun i => (Q i : EReal)) (fun i => (L i : EReal)) vl (fun i => (C i : EReal)) vc b t
        ⟨j.val * 4 + g.val, by omega⟩ d
      = mean (F := Ideal) (shares (powers (scores (F := Ideal) (fun i => (Q i : EReal)) (fun i => (L i : EReal)) (fun i => (C i : EReal))))) vl vc
          (ix3 b t e) := by
  have hj : (⟨(j.val * 4 + g.val) / 4, by omega⟩ : Fin 4) = j := Fin.ext (by show (j.val * 4 + g.val) / 4 = j.val; omega)
  obtain ⟨μ', hμ'⟩ := peak_real _ (scores_real Q L C) (ix4 b j g t)
  have hp : ∀ k, powers (scores (F := Ideal) (fun i => (Q i : EReal)) (fun i => (L i : EReal)) (fun i => (C i : EReal)))
      (ix5 b j g t (slot k)) = ((Real.exp (logit Q L C b j ⟨j.val * 4 + g.val, by omega⟩ t k - μ') : ℝ) : EReal) := fun k => by
    rw [powers_apply, capped_apply, hμ', scores_coe, ← EReal.coe_sub, exp_coe]
  rw [mean_apply _ _ _ b j g t e d he, attnAt, headScore_coe]
  obtain ⟨μ, hμ⟩ := runAcc_eq fun n l => logit Q L C b ⟨(j.val * 4 + g.val) / 4, by omega⟩ ⟨j.val * 4 + g.val, by omega⟩ t
          (if hn : n < 16 then .inl ⟨256 * n + l.val, by omega⟩ else .inr l) / Real.log 2
  rw [hμ, hμ, run_eq _ _ _ (valueOf vl vc b j d), run_eq _ _ _ (fun _ => 1), hj, softmax_ratio _ _ _ μ',
    Fintype.sum_sum_type]
  · have hs : ∀ k, Ideal.div ((Real.exp (logit Q L C b j ⟨j.val * 4 + g.val, by omega⟩ t k - μ') : ℝ) : EReal)
          (∑ k, ((Real.exp (logit Q L C b j ⟨j.val * 4 + g.val, by omega⟩ t k - μ') : ℝ) : EReal))
        = shares (powers (scores (F := Ideal) (fun i => (Q i : EReal)) (fun i => (L i : EReal)) (fun i => (C i : EReal))))
          (ix5 b j g t (slot k)) := fun k => by
      rw [shares_apply, sum_slot]
      simp only [hp]
    simp only [hs]
    rfl
  · exact fun _ => rfl
  · exact fun _ => rfl
  · intro k
    have hk : k.val / 256 < 16 := by omega
    have e : (⟨256 * (k.val / 256) + k.val % 256, by omega⟩ : Fin 4096) = k := Fin.ext (Nat.div_add_mod _ _)
    unfold chunked valueOf
    dsimp only
    rw [dif_pos hk, e, hj]
  · intro k
    unfold chunked valueOf
    dsimp only
    rw [dif_neg (by omega), hj]

end Real

/-- Over real queries and keys the kernel's attention is the reference's. -/
theorem attention_eq (q : S4x4096x16x128.Idx → EReal) (kl vl : S4x4096x4x128.Idx → EReal)
    (kc vc : S4x256x4x128.Idx → EReal) (hq : ∀ i, ∃ r : ℝ, q i = r) (hl : ∀ i, ∃ r : ℝ, kl i = r)
    (hc : ∀ i, ∃ r : ℝ, kc i = r) : attention q kl vl kc vc = mean (F := Ideal) (shares (powers (scores q kl kc))) vl vc := by
  choose Q hQ using hq
  choose L hL using hl
  choose C hC using hc
  obtain rfl : q = fun i => (Q i : EReal) := funext hQ
  obtain rfl : kl = fun i => (L i : EReal) := funext hL
  obtain rfl : kc = fun i => (C i : EReal) := funext hC
  funext i
  have h2 : (i 2).val < 2048 := (i 2).isLt
  have hi : i = ix3 (i 0) (i 1) (i 2) := by funext a; fin_cases a <;> rfl
  have hh : (⟨(i 2).val / 128, by omega⟩ : Fin 16) = ⟨(i 2).val / 512 * 4 + (i 2).val / 128 % 4, by omega⟩ :=
    Fin.ext (by show (i 2).val / 128 = (i 2).val / 512 * 4 + (i 2).val / 128 % 4; omega)
  unfold attention
  rw [hh]
  conv_rhs => rw [hi]
  exact attnAt_eq Q L C vl vc (i 0) ⟨(i 2).val / 512, by omega⟩ ⟨(i 2).val / 128 % 4, by omega⟩ (i 1) (i 2)
    ⟨(i 2).val % 128, by omega⟩ (by show (i 2).val = ((i 2).val / 512 * 4 + (i 2).val / 128 % 4) * 128 + (i 2).val % 128; omega)

end Cert.AttnRef

end
-- ==== Proof.Finite.lean ====
/-
  What the precondition gives: every entry of the queries and of both arrays of keys is a real number.
-/
module

public import proofs.«01_k».proof.Pre_finite_q_k
public import Idealize.ShloMosaic.PureOps.Ideal
public import Idealize.ShloMosaic.Lib.ReduceAll

@[expose] public section

set_option maxRecDepth 16384

noncomputable section

open Idealize.ShloMosaic Cert.Pre_finite_q_k

namespace Cert.Finite

/-- The shape relations the precondition's operations take. -/
instance facts : Cert.Pre_finite_q_k.Facts where
  bcast_S_S4x4096x16x128 := by decide
  reducesTo_S4x4096x16x128_S_d0_1_2_3 := by decide
  h_S_ := by decide
  bcast_S_S4x4096x4x128 := by decide
  reducesTo_S4x4096x4x128_S_d0_1_2_3 := by decide
  bcast_S_S4x256x4x128 := by decide
  reducesTo_S4x256x4x128_S_d0_1_2_3 := by decide

/-- A number whose absolute value is less than infinity is real. -/
theorem real_of_abs_lt (x : EReal) (h : Ideal.cmp .olt (max x (-x)) (Ideal.ofBits .f32 0x7F800000#32) = 1#1) :
    ∃ r : ℝ, x = r := by
  have ht : Ideal.ofBits .f32 0x7F800000#32 = (⊤ : EReal) := by simp [Ideal.ofBits, Ideal.ieee]
  rw [ht] at h
  induction x with
  | bot => simp [Ideal.cmp] at h
  | top => simp [Ideal.cmp] at h
  | coe r => exact ⟨r, rfl⟩

theorem and_eq_one {a b : BitVec 1} (h : IntOp.andi a b = 1#1) : a = 1#1 ∧ b = 1#1 := by
  revert a b; decide

instance : Subsingleton S_.Idx := ⟨fun _ _ => funext fun k => k.elim0⟩

theorem real (q : FVec Ideal S4x4096x16x128 .f32) (kl vl : FVec Ideal S4x4096x4x128 .f32)
    (kc vc : FVec Ideal S4x256x4x128 .f32) (wo fo : FVec Ideal S1x2048x2048 .f32) (w1 : FVec Ideal S2x2048x8192 .f32)
    (w2 : FVec Ideal S2x8192x2048 .f32) (h : fn q kl vl kc vc wo fo w1 w2 = fun _ => 1#1) :
    (∀ i, ∃ r : ℝ, (q i : EReal) = r) ∧ (∀ i, ∃ r : ℝ, (kl i : EReal) = r) ∧ ∀ i, ∃ r : ℝ, (kc i : EReal) = r := by
  obtain ⟨h, hc⟩ := and_eq_one (congrFun h fun k => k.elim0)
  obtain ⟨hq, hl⟩ := and_eq_one h
  exact ⟨fun i => real_of_abs_lt _ (Host.reduce_andi_all _ _ _ _ _ hq i),
    fun i => real_of_abs_lt _ (Host.reduce_andi_all _ _ _ _ _ hl i),
    fun i => real_of_abs_lt _ (Host.reduce_andi_all _ _ _ _ _ hc i)⟩

end Cert.Finite

end
-- ==== Proof.WeightCasts.lean ====
/-
  The four weight arrays that the attention kernel casts on the side: each result holds the argument's elements, in
  the row-major order of the argument, one block of rows per grid point.
-/
module

public import proofs.«01_k».proof.Proof.Gen.KernelIdeal.Frame
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe
open Cert.KernelIdeal Cert.KernelIdeal.Gen

namespace Cert.Attn

variable (m : (ℓ : Loc nD τ sig) → Buf (Elt Ideal) ℓ) (c : Dev nD)

/-- Point `t` reads and writes row block `t` of every weight array. -/
theorem weight_blocks_at : ∀ t : Fin grid0.N, win0_5.index t = ![t.val, 0, 0] ∧ win0_6.index t = ![t.val, 0, 0]
    ∧ win0_7.index t = ![t.val, 0, 0] ∧ win0_8.index t = ![t.val, 0, 0] ∧ win0_10.index t = ![t.val, 0, 0]
    ∧ win0_11.index t = ![t.val, 0, 0] ∧ win0_12.index t = ![t.val, 0, 0] ∧ win0_13.index t = ![t.val, 0, 0] := by
  decide +kernel

/-- The four weight arguments, as arrays of extended reals. -/
abbrev argWO : S1x2048x2048.Idx → EReal := m ((c : Thread nD τ).loc main_arg5)
abbrev argFO : S1x2048x2048.Idx → EReal := m ((c : Thread nD τ).loc main_arg6)
abbrev argW1 : S2x2048x8192.Idx → EReal := m ((c : Thread nD τ).loc main_arg7)
abbrev argW2 : S2x8192x2048.Idx → EReal := m ((c : Thread nD τ).loc main_arg8)

theorem casts_o : S1x2048x2048.ShapeCasts S64x32x2048 := by decide

theorem entry_wo : V m c main_v22 = shapeCast S64x32x2048 (argWO m c) casts_o := by
  entry_read
  exact shapeCast_comp (argWO m c) _ _

/-- The attention's output projection. -/
theorem final_wo : (dats m 0 c).arrAt 10 cfg0.N = shapeCast S64x32x2048 (argWO m c) casts_o := by
  rw [← entry_wo]
  refine (dats m 0 c).arrAt_eq_of_covers 10 _ (by decide +kernel) fun t hf y => ?_
  blk_simp
  rw [after0_10]
  frame_out
  pointwise [k0_pay6]
  blk_ext [iblk, weight_blocks_at t]

theorem entry_fo : V m c main_v23 = shapeCast S64x32x2048 (argFO m c) casts_o := by
  entry_read
  exact shapeCast_comp (argFO m c) _ _

/-- The Fourier part's output projection. -/
theorem final_fo : (dats m 0 c).arrAt 11 cfg0.N = shapeCast S64x32x2048 (argFO m c) casts_o := by
  rw [← entry_fo]
  refine (dats m 0 c).arrAt_eq_of_covers 11 _ (by decide +kernel) fun t hf y => ?_
  blk_simp
  rw [after0_11]
  frame_out
  pointwise [k0_pay7]
  blk_ext [iblk, weight_blocks_at t]

theorem entry_w1 : V m c main_v24 = shapeCast S64x64x8192 (argW1 m c) shapeCasts_S2x2048x8192_S64x64x8192 := by
  entry_read
  rfl

/-- The multilayer perceptron's first projection. -/
theorem final_w1 : (dats m 0 c).arrAt 12 cfg0.N = shapeCast S64x64x8192 (argW1 m c) shapeCasts_S2x2048x8192_S64x64x8192 := by
  rw [← entry_w1]
  refine (dats m 0 c).arrAt_eq_of_covers 12 _ (by decide +kernel) fun t hf y => ?_
  blk_simp
  rw [after0_12]
  frame_out
  pointwise [k0_pay8]
  blk_ext [iblk, weight_blocks_at t]

theorem entry_w2 : V m c main_v25 = shapeCast S64x256x2048 (argW2 m c) shapeCasts_S2x8192x2048_S64x256x2048 := by
  entry_read
  rfl

/-- The multilayer perceptron's second projection. -/
theorem final_w2 : (dats m 0 c).arrAt 13 cfg0.N = shapeCast S64x256x2048 (argW2 m c) shapeCasts_S2x8192x2048_S64x256x2048 := by
  rw [← entry_w2]
  refine (dats m 0 c).arrAt_eq_of_covers 13 _ (by decide +kernel) fun t hf y => ?_
  blk_simp
  rw [after0_13]
  frame_out
  pointwise [k0_pay9]
  blk_ext [iblk, weight_blocks_at t]

end Cert.Attn

end
-- ==== Proof.AttnClaim.lean ====
/-
  The claims about the attention: the reference runs and leaves its arguments and every counter as they were, and the
  kernel's five results are the reference's.
-/
module

public import proofs.«01_k».proof.Defs
public import proofs.«01_k».proof.Proof.Gen.KernelIdeal.Value
public import proofs.«01_k».proof.Proof.AttnEq
public import proofs.«01_k».proof.Proof.Finite
public import proofs.«01_k».proof.Proof.WeightCasts

@[expose] public section

noncomputable section

open Idealize.ShloMosaic Idealize.ShloMosaic.TcCoe Idealize.SL.Sem

namespace Cert.AttnClaim

theorem reference_frame : Cert.quiescent_ReferenceIdeal := fun m g _ =>
  (θ_run _ _ _).mono (fun _ h => ⟨fun c => (h c).2.2.2.2.2, sem_eq_zero_of_no_sems (by decide) _⟩)
    (Cert.ReferenceIdeal.Value.run m g)

/-- What array `w` of the kernel's call holds when it has run. -/
abbrev final (w : Fin Cert.KernelIdeal.cfg0.W) (m) (c) :=
  (Cert.KernelIdeal.Gen.dats (F := Ideal) m 0 c).arrAt w Cert.KernelIdeal.cfg0.N

theorem algebraic : Cert.algebraic_KernelIdeal_ReferenceIdeal_pre_finite_q_k := by
  intro m g m' g' hpre heq
  refine ⟨final 9 m, final 10 m, final 11 m, final 12 m, final 13 m, Cert.KernelIdeal.Value.run_blocks m g, ?_⟩
  refine (θ_run _ _ _).mono (fun r h c => ?_) (Cert.ReferenceIdeal.Value.run m' g')
  obtain ⟨h0, h1, h2, h3, h4, hk⟩ := h c
  obtain ⟨e0, e1, e2, e3, e4, e5, e6, e7, e8⟩ := heq c
  obtain ⟨hq, hl, hc⟩ := Cert.Finite.real _ _ _ _ _ _ _ _ _ (hpre c)
  refine ⟨h0.trans ?_, h1.trans ?_, h2.trans ?_, h3.trans ?_, h4.trans ?_, hk⟩
  · refine (Cert.AttnRef.stages_eq m' c).trans (Eq.trans ?_ (Cert.Attn.final_attention m c).symm)
    rw [e0, e1, e2, e3, e4]
    exact (Cert.AttnRef.attention_eq _ _ _ _ _ hq hl hc).symm
  · exact Eq.trans (by rw [e5]; rfl) (Cert.Attn.final_wo m c).symm
  · exact Eq.trans (by rw [e6]; rfl) (Cert.Attn.final_fo m c).symm
  · exact Eq.trans (by rw [e7]; rfl) (Cert.Attn.final_w1 m c).symm
  · exact Eq.trans (by rw [e8]; rfl) (Cert.Attn.final_w2 m c).symm

end Cert.AttnClaim

end
-- ==== Proof.SqRelu.lean ====
/-
  The mathematics of a squared-ReLU layer on one row: its hidden columns, their sum in chunks of 2048, and the division
  by the root mean square. No program is mentioned here.
-/
module

public import Idealize.ShloMosaic.Lib.Pointwise

@[expose] public section

noncomputable section

open Idealize.ShloMosaic

namespace Cert.SqRelu

/-- One hidden column of a row `h`: the squared positive part of its product with a column of the first weight. -/
def activation (h w : Fin 2048 → EReal) : EReal := max (∑ d, h d * w d) 0 * max (∑ d, h d * w d) 0

/-- The contribution of 2048 hidden columns to one entry of the row's result. -/
def chunkSum (h : Fin 2048 → EReal) (w1 : Fin 2048 → Fin 2048 → EReal) (w2 : Fin 2048 → EReal) : EReal :=
  ∑ f, activation h (fun d => w1 d f) * w2 f

/-- The factor that divides a row `x` by its root mean square. -/
def rmsScale (x : Fin 2048 → EReal) : EReal :=
  Ideal.rsqrt (Ideal.div (∑ k, x k * x k) (Ideal.ofBits .f32 0x45000000#32) + Ideal.ofBits .f32 0x358637BD#32)

/-- Entry `e` of a row `x`, divided by the row's root mean square. -/
def normed (x : Fin 2048 → EReal) (e : Fin 2048) : EReal := x e * rmsScale x

/-- Hidden column `f` of chunk `n`. -/
def column (n : Fin 4) (f : Fin 2048) : Fin 8192 := ⟨n.val * 2048 + f.val, by omega⟩

/-- A sum over all hidden columns is the four chunks' sums, added in order. -/
theorem sum_columns (g : Fin 8192 → EReal) : ∑ f, g f
    = ∑ f, g (column 0 f) + ∑ f, g (column 1 f) + ∑ f, g (column 2 f) + ∑ f, g (column 3 f) := by
  refine (Fin.sum_univ_add (a := 6144) (b := 2048) g).trans (congrArg₂ _ ?_ ?_)
  · refine (Fin.sum_univ_add (a := 4096) (b := 2048) _).trans (congrArg₂ _ ?_ ?_)
    · refine (Fin.sum_univ_add (a := 2048) (b := 2048) _).trans (congrArg₂ _ ?_ ?_)
      · exact Finset.sum_congr rfl fun f _ => congrArg g (Fin.ext (by simp [column]))
      · exact Finset.sum_congr rfl fun f _ => congrArg g (Fin.ext (by simp [column, Nat.add_comm]))
    · exact Finset.sum_congr rfl fun f _ => congrArg g (Fin.ext (by simp [column]))
  · exact Finset.sum_congr rfl fun f _ => congrArg g (Fin.ext (by simp [column]))

/-- The arrays: rows of the residual stream, the two weights and the modulations, the latter three for both layers. -/
abbrev Rows := (⟨3, ![4, 4096, 2048]⟩ : Shape).Idx → EReal
@[inherit_doc Rows] abbrev Weight1 := (⟨3, ![2, 2048, 8192]⟩ : Shape).Idx → EReal
@[inherit_doc Rows] abbrev Weight2 := (⟨3, ![2, 8192, 2048]⟩ : Shape).Idx → EReal
@[inherit_doc Rows] abbrev Mods := (⟨3, ![2, 8, 12288]⟩ : Shape).Idx → EReal

/-- Entry `e` of the layer `l`'s result at batch `b` and position `p`. -/
def layer (h : Rows) (w1 : Weight1) (w2 : Weight2) (l : Fin 2)
    (b : Fin 4) (p : Fin 4096) (e : Fin 2048) : EReal :=
  ∑ f, activation (fun d => h (ix3 b p d)) (fun d => w1 (ix3 l d f)) * w2 (ix3 l f e)

/-- Entry `e` of the residual stream after the layer: the layer's result is gated by the sixth of the layer's
    modulation rows of its batch. -/
def stream (h : Rows) (w1 : Weight1) (w2 : Weight2)
    (x : Rows) (mod : Mods) (l : Fin 2) (b : Fin 4) (p : Fin 4096)
    (e : Fin 2048) : EReal :=
  x (ix3 b p e) + mod (ix3 l ⟨b.val, by omega⟩ ⟨10240 + e.val, by omega⟩) * layer h w1 w2 l b p e

end Cert.SqRelu

end
-- ==== Proof.MlpStep.lean ====
/-
  What one grid point of the squared-ReLU kernel leaves in its output block.

  The grid's last axis goes over four chunks of 2048 hidden columns. At the first the block is the chunk's
  contribution (`chunkSum`), at the two that follow it is added, and at the last the sum is completed, gated, added to
  the residual and normalised.
-/
module

public import proofs.«01_k».proof.Proof.Gen.MlpIdeal.Frame
public import proofs.«01_k».proof.Proof.SqRelu
public import Idealize.ShloMosaic.Lib.Claim
public import Idealize.ShloMosaic.Lib.Pipeline.ValueKit

@[expose] public section

set_option maxRecDepth 16384

noncomputable section

open Idealize.ShloMosaic Idealize.ShloMosaic.TcCoe
open Cert.MlpIdeal Cert.MlpIdeal.Gen

namespace Cert.MlpStep

open Cert.SqRelu

variable (m : (ℓ : Loc nD τ sig) → Buf (Elt Ideal) ℓ) (c : Dev nD)

/-- The contribution of point `t`'s chunk to row `r` and column `e` of its block. -/
def contrib (t : Fin cfg0.N) (r : Fin 512) (e : Fin 2048) : EReal :=
  chunkSum (fun d => iblk m c 0 t (ix3 0 r d)) (fun d f => iblk m c 1 t (ix3 0 d f)) (fun f => iblk m c 2 t (ix3 0 f e))

/-- Point `t`'s block of the residual, its row of gates and its gain, at an entry. -/
def residual (t : Fin cfg0.N) (r : Fin 512) (k : Fin 2048) : EReal := iblk m c 3 t (ix3 0 r k)
@[inherit_doc residual] def gate (t : Fin cfg0.N) (k : Fin 2048) : EReal := iblk m c 4 t (ix5 0 0 0 0 k)
@[inherit_doc residual] def gain (t : Fin cfg0.N) (k : Fin 2048) : EReal := iblk m c 5 t (ix2 0 k)

/-- The block that the point before `t` left. -/
abbrev prev (t : Fin cfg0.N) : Vec Ideal S1x512x2048 .f32 :=
  outsAt0 m c (t.val - 1) (Nat.lt_of_le_of_lt (Nat.sub_le _ _) t.isLt)

/-- After the first chunk the block holds its contribution. -/
theorem first_apply (t : Fin cfg0.N) (ht : t.val % 4 = 0) (r : Fin 512) (e : Fin 2048) :
    outsAt0 m c t.val t.isLt (ix3 0 r e) = contrib m c t r e := by
  rw [outsAt0_A m c t ht (by omega) (by omega)]
  unfold out0_A_6 contrib
  rw [View.read_writes_eq_canon _ _ _ (cover0_A_6 _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread]
  generalize iblk m c 0 t = z0
  generalize iblk m c 1 t = z1
  generalize iblk m c 2 t = z2
  canon_tiles x h
  all_goals
    idx_vars x
    simp at h0 h1 h2
    obtain rfl : e = x2 := Fin.ext h2
    pointwise [k0_pay1, k0_pay4, k0_pay5, chunkSum, activation]
    simp only [← h1, Fin.eta]

/-- After a chunk in the middle its contribution is added. -/
theorem next_apply (t : Fin cfg0.N) (ht : 1 ≤ t.val % 4 ∧ t.val % 4 ≤ 2) (r : Fin 512) (e : Fin 2048) :
    outsAt0 m c t.val t.isLt (ix3 0 r e) = prev m c t (ix3 0 r e) + contrib m c t r e := by
  rw [outsAt0_B m c t (by omega) ht (by omega)]
  unfold out0_B_6 contrib prev
  rw [View.read_writes_eq_canon _ _ _ (cover0_B_6 _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_6 t).read_unread]
  generalize iblk m c 0 t = z0
  generalize iblk m c 1 t = z1
  generalize iblk m c 2 t = z2
  generalize outsAt0 m c (t.val - 1) _ = z6
  canon_tiles x h
  all_goals
    idx_vars x
    simp at h0 h1 h2
    obtain rfl : e = x2 := Fin.ext h2
    pointwise [k0_pay2, k0_pay6, k0_pay7, k0_pay8, chunkSum, activation]
    simp only [← h1, Fin.eta]

/-- After the last chunk the sum is gated, added to the residual, normalised and multiplied by the gain. -/
theorem last_apply (t : Fin cfg0.N) (ht : t.val % 4 = 3) (r : Fin 512) (e : Fin 2048) :
    outsAt0 m c t.val t.isLt (ix3 0 r e) = normed (fun k => residual m c t r k
      + gate m c t k * (prev m c t (ix3 0 r k) + contrib m c t r k)) e * gain m c t e := by
  rw [outsAt0_C m c t (by omega) (by omega) ht]
  unfold out0_C_6 contrib prev residual gate gain normed rmsScale chunkSum activation
  rw [View.read_writes_eq_canon _ _ _ (cover0_C_6 _ _ _ _ _ _ _ _ _ _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  generalize iblk m c 0 t = z0
  generalize iblk m c 1 t = z1
  generalize iblk m c 2 t = z2
  generalize iblk m c 3 t = z3
  generalize iblk m c 4 t = z4
  generalize iblk m c 5 t = z5
  generalize outsAt0 m c (t.val - 1) _ = z6
  canon_tiles x h
  all_goals
    idx_vars x
    simp at h0 h1 h2
    obtain rfl : e = x2 := Fin.ext h2
    pointwise [k0_pay3, k0_pay9, k0_pay10, k0_pay11, k0_pay12]
    simp only [← h1, Fin.eta]

end Cert.MlpStep

end
-- ==== Proof.MlpArray.lean ====
/-
  What the last squared-ReLU kernel's result array holds when it has run: the residual stream after the second layer,
  divided by its root mean square and multiplied by the gain.
-/
module

public import proofs.«01_k».proof.Proof.MlpStep

@[expose] public section

set_option maxRecDepth 16384

noncomputable section

open Idealize.ShloMosaic Idealize.ShloMosaic.TcCoe
open Cert.MlpIdeal Cert.MlpIdeal.Gen

namespace Cert.MlpStep

open Cert.SqRelu

/-- The result's whole array. -/
def result (h : Rows) (w1 : Weight1) (w2 : Weight2) (x : Rows) (mod : Mods) (g : S2048.Idx → EReal)
    (i : S4x4096x2048.Idx) : EReal :=
  normed (stream h w1 w2 x mod 1 (i 0) (i 1)) (i 2) * g (ix1 (i 2))

variable (m : (ℓ : Loc nD τ sig) → Buf (Elt Ideal) ℓ) (c : Dev nD)

/-- The six arguments, as arrays of extended reals. -/
abbrev argH : Rows := m ((c : Thread nD τ).loc main_arg0)
@[inherit_doc argH] abbrev argW1 : Weight1 := m ((c : Thread nD τ).loc main_arg1)
@[inherit_doc argH] abbrev argW2 : Weight2 := m ((c : Thread nD τ).loc main_arg2)
@[inherit_doc argH] abbrev argX : Rows := m ((c : Thread nD τ).loc main_arg3)
@[inherit_doc argH] abbrev argMod : Mods := m ((c : Thread nD τ).loc main_arg4)
@[inherit_doc argH] abbrev argG : S2048.Idx → EReal := m ((c : Thread nD τ).loc main_arg5)

/-! ## The arrays that the region is entered with -/

theorem entry_h (b : Fin 4) (p : Fin 4096) (d : Fin 2048) : V m c main_v1 (ix3 b p d) = argH m c (ix3 b p d) := by
  entry_read
  pointwise

theorem entry_w1 (l : Fin 2) (d : Fin 2048) (f : Fin 8192) : V m c main_v2 (ix3 l d f) = argW1 m c (ix3 l d f) := by
  entry_read
  pointwise

theorem entry_w2 (l : Fin 2) (f : Fin 8192) (e : Fin 2048) : V m c main_v3 (ix3 l f e) = argW2 m c (ix3 l f e) := by
  entry_read
  pointwise

theorem entry_x (b : Fin 4) (p : Fin 4096) (d : Fin 2048) : V m c main_arg3 (ix3 b p d) = argX m c (ix3 b p d) := by
  rw [V_main_arg3]

theorem entry_mod (l : Fin 2) (b : Fin 8) (e : Fin 2048) :
    V m c main_v0 (ix5 l b 5 0 e) = argMod m c (ix3 l b ⟨10240 + e.val, by omega⟩) := by
  entry_read
  pointwise

theorem entry_g (e : Fin 2048) : V m c main_v4 (ix2 0 e) = argG m c (ix1 e) := by
  entry_read
  pointwise

/-- Which blocks point `t` reads and writes. -/
theorem blocks_at : ∀ t : Fin grid0.N, win0_0.index t = ![t.val / 32, t.val / 4 % 8, 0]
    ∧ win0_1.index t = ![1, 0, t.val % 4] ∧ win0_2.index t = ![1, t.val % 4, 0]
    ∧ win0_3.index t = ![t.val / 32, t.val / 4 % 8, 0] ∧ win0_4.index t = ![1, t.val / 32, 5, 0, 0]
    ∧ win0_5.index t = ![0, 0] ∧ win0_6.index t = ![t.val / 32, t.val / 4 % 8, 0] := by decide +kernel

theorem point_lt (t : Fin cfg0.N) : t.val < 128 := t.isLt.trans_eq N_0

section Point

variable (t : Fin cfg0.N) (b : Fin 4) (p : Fin 4096) (r : Fin 512) (n : Fin 4) (hb : b.val = t.val / 32)
  (hp : p.val = t.val / 4 % 8 * 512 + r.val) (hn : n.val = t.val % 4)

include hb hp in
theorem iblk_h (d : Fin 2048) : iblk m c 0 t (ix3 0 r d) = argH m c (ix3 b p d) := by
  rw [← entry_h]
  blk_ext [iblk, blocks_at t]

include hn in
theorem iblk_w1 (d f : Fin 2048) : iblk m c 1 t (ix3 0 d f) = argW1 m c (ix3 1 d (column n f)) := by
  rw [← entry_w1]
  blk_ext [iblk, blocks_at t, column]

include hn in
theorem iblk_w2 (f e : Fin 2048) : iblk m c 2 t (ix3 0 f e) = argW2 m c (ix3 1 (column n f) e) := by
  rw [← entry_w2]
  blk_ext [iblk, blocks_at t, column]

include hb hp in
theorem residual_eq (d : Fin 2048) : residual m c t r d = argX m c (ix3 b p d) := by
  unfold residual
  rw [← entry_x]
  blk_ext [iblk, blocks_at t]

include hb in
theorem gate_eq (e : Fin 2048) : gate m c t e
    = argMod m c (ix3 1 ⟨b.val, b.isLt.trans (by decide)⟩ ⟨10240 + e.val, Nat.add_lt_add_left e.isLt 10240⟩) := by
  unfold gate
  rw [← entry_mod]
  blk_ext [iblk, blocks_at t]

theorem gain_eq (e : Fin 2048) : gain m c t e = argG m c (ix1 e) := by
  unfold gain
  rw [← entry_g]
  blk_ext [iblk, blocks_at t]

include hb hp hn in
/-- A point's contribution is its chunk's part of the layer's result. -/
theorem contrib_eq (e : Fin 2048) : contrib m c t r e
    = ∑ f, activation (fun d => argH m c (ix3 b p d)) (fun d => argW1 m c (ix3 1 d (column n f)))
        * argW2 m c (ix3 1 (column n f) e) := by
  unfold contrib chunkSum
  refine Finset.sum_congr rfl fun f _ => congrArg₂ _ (congrArg₂ _ ?_ ?_) ?_
  · funext d; exact iblk_h m c t b p r hb hp d
  · funext d; exact iblk_w1 m c t n hn d f
  · exact iblk_w2 m c t n hn f e

end Point

/-- At the last of a block's four points, the block so far and the point's contribution are the layer's result. -/
theorem sum_eq (t : Fin cfg0.N) (ht : t.val % 4 = 3) (b : Fin 4) (p : Fin 4096) (r : Fin 512) (hb : b.val = t.val / 32)
    (hp : p.val = t.val / 4 % 8 * 512 + r.val) (e : Fin 2048) :
    (prev m c t (ix3 0 r e) : EReal) + contrib m c t r e = layer (argH m c) (argW1 m c) (argW2 m c) 1 b p e := by
  have hN := t.isLt
  let t2 : Fin cfg0.N := ⟨t.val - 1, by omega⟩
  let t1 : Fin cfg0.N := ⟨t.val - 1 - 1, by omega⟩
  let t0 : Fin cfg0.N := ⟨t.val - 1 - 1 - 1, by omega⟩
  have e2 : prev m c t (ix3 0 r e) = _ := next_apply m c t2 (by show 1 ≤ (t.val - 1) % 4 ∧ (t.val - 1) % 4 ≤ 2; omega) r e
  have e1 : prev m c t2 (ix3 0 r e) = _ := next_apply m c t1 (by show 1 ≤ (t.val - 1 - 1) % 4 ∧ (t.val - 1 - 1) % 4 ≤ 2; omega) r e
  have e0 : prev m c t1 (ix3 0 r e) = _ := first_apply m c t0 (by show (t.val - 1 - 1 - 1) % 4 = 0; omega) r e
  rw [e2, e1, e0]
  unfold layer
  rw [sum_columns, contrib_eq m c t b p r 3 hb hp ht.symm,
    contrib_eq m c t2 b p r 2 (by simp only [t2]; omega) (by simp only [t2]; omega) (by simp only [t2]; omega),
    contrib_eq m c t1 b p r 1 (by simp only [t1]; omega) (by simp only [t1]; omega) (by simp only [t1]; omega),
    contrib_eq m c t0 b p r 0 (by simp only [t0]; omega) (by simp only [t0]; omega) (by simp only [t0]; omega)]

/-- The result array after the run. -/
theorem final_result : (dats m 0 c).arrAt 6 cfg0.N
    = result (argH m c) (argW1 m c) (argW2 m c) (argX m c) (argMod m c) (argG m c) := by
  refine (dats m 0 c).arrAt_eq_of_covers 6 _ (by decide +kernel) fun t hf y => ?_
  have h3 : t.val % 4 = 3 := (show ∀ t : Fin cfg0.N, (cfg0.win 6).flush t = true → t.val % 4 = 3 by decide +kernel) t hf
  blk_simp
  rw [after0_6]
  have ht := point_lt t
  idx_vars y
  let b : Fin 4 := ⟨t.val / 32, by omega⟩
  let p : Fin 4096 := ⟨t.val / 4 % 8 * 512 + y1.val, by omega⟩
  have hx : (win0_6.blk t).view.emb (ix3 y0 y1 y2) = ix3 b p y2 := by
    funext k
    apply Fin.ext
    fin_cases k <;> blk_simp [blocks_at t, b, p] <;> rfl
  obtain rfl : y0 = 0 := Subsingleton.elim _ _
  rw [hx]
  refine (last_apply m c t h3 y1 y2).trans (congrArg₂ _ (congrArg (normed · y2) ?_) (gain_eq m c t y2))
  funext k
  rw [residual_eq m c t b p y1 rfl rfl, gate_eq m c t b rfl, sum_eq m c t h3 b p y1 rfl rfl]
  rfl

end Cert.MlpStep

end
-- ==== Proof.MlpClaim.lean ====
/-
  The claims about the last squared-ReLU layer: the reference runs and leaves its arguments and every counter as they
  were, and the kernel's result is the reference's.
-/
module

public import proofs.«01_k».proof.Defs
public import proofs.«01_k».proof.Proof.Gen.MlpIdeal.Value
public import proofs.«01_k».proof.Proof.Gen.MlpReferenceIdeal.Run
public import proofs.«01_k».proof.Proof.MlpArray

@[expose] public section

noncomputable section

open Idealize.ShloMosaic Idealize.ShloMosaic.TcCoe Idealize.SL.Sem

namespace Cert.MlpClaim

theorem reference_frame : Cert.quiescent_MlpReferenceIdeal := fun m g _ =>
  (θ_run _ _ _).mono (fun _ h => ⟨fun c => (h c).2, sem_eq_zero_of_no_sems (by decide) _⟩)
    (Cert.MlpReferenceIdeal.Value.run m g)

section Reference

open Cert.MlpReferenceIdeal

variable (m : (ℓ : Loc nD τ sig) → Buf (Elt Ideal) ℓ) (c : Dev nD)

/-- The reference's result is the same array. -/
theorem reference_result : Cert.MlpReferenceIdeal.Value.res_out0 m c
    = Cert.MlpStep.result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  funext i
  unfold Cert.MlpReferenceIdeal.Value.res_out0 Cert.MlpReferenceIdeal.Value.res_main_v33
  unfold Cert.MlpStep.result Cert.SqRelu.normed Cert.SqRelu.rmsScale Cert.SqRelu.stream Cert.SqRelu.layer Cert.SqRelu.activation
  idx_vars i
  pointwise

end Reference

theorem algebraic : Cert.algebraic_MlpIdeal_MlpReferenceIdeal := by
  intro m g m' g' _ heq
  refine ⟨(Cert.MlpIdeal.Gen.dats (F := Ideal) m 0 · |>.arrAt 6 Cert.MlpIdeal.cfg0.N), Cert.MlpIdeal.Value.run_blocks m g, ?_⟩
  refine (θ_run _ _ _).mono (fun r h c => ?_) (Cert.MlpReferenceIdeal.Value.run m' g')
  obtain ⟨h0, hk⟩ := h c
  obtain ⟨e0, e1, e2, e3, e4, e5⟩ := heq c
  refine ⟨h0.trans ?_, hk⟩
  refine (reference_result m' c).trans (Eq.trans ?_ (Cert.MlpStep.final_result m c).symm)
  rw [e0, e1, e2, e3, e4, e5]

end Cert.MlpClaim

end
-- ==== Proof.FirstStep.lean ====
/-
  What one grid point of the first layer's squared-ReLU kernel leaves in its two output blocks.

  The grid's last axis goes over four chunks of 2048 hidden columns. At the first the block is the chunk's
  contribution (`chunkSum`), at the two that follow it is added, and at the last the sum is completed, gated and added
  to the residual; the second block then gets the factor that would normalise each row, in each of 128 lanes.
-/
module

public import proofs.«01_k».proof.Proof.Gen.FirstMlpIdeal.Frame
public import proofs.«01_k».proof.Proof.SqRelu
public import Idealize.ShloMosaic.Lib.Claim
public import Idealize.ShloMosaic.Lib.Pipeline.ValueKit

@[expose] public section

set_option maxRecDepth 16384

noncomputable section

open Idealize.ShloMosaic Idealize.ShloMosaic.TcCoe
open Cert.FirstMlpIdeal Cert.FirstMlpIdeal.Gen

namespace Cert.FirstStep

open Cert.SqRelu

variable (m : (ℓ : Loc nD τ sig) → Buf (Elt Ideal) ℓ) (c : Dev nD)

/-- The contribution of point `t`'s chunk to row `r` and column `e` of its block. -/
def contrib (t : Fin cfg0.N) (r : Fin 512) (e : Fin 2048) : EReal :=
  chunkSum (fun d => iblk m c 0 t (ix3 0 r d)) (fun d f => iblk m c 1 t (ix3 0 d f)) (fun f => iblk m c 2 t (ix3 0 f e))

/-- Point `t`'s block of the residual, and its row of gates, at an entry. -/
def residual (t : Fin cfg0.N) (r : Fin 512) (k : Fin 2048) : EReal := iblk m c 3 t (ix3 0 r k)
@[inherit_doc residual] def gate (t : Fin cfg0.N) (k : Fin 2048) : EReal := iblk m c 4 t (ix5 0 0 0 0 k)

/-- The block that the point before `t` left. -/
abbrev prev (t : Fin cfg0.N) : Vec Ideal S1x512x2048 .f32 :=
  (outsAt0 m c (t.val - 1) (Nat.lt_of_le_of_lt (Nat.sub_le _ _) t.isLt)).1

/-- After the first chunk the block holds its contribution. -/
theorem first_apply (t : Fin cfg0.N) (ht : t.val % 4 = 0) (r : Fin 512) (e : Fin 2048) :
    (outsAt0 m c t.val t.isLt).1 (ix3 0 r e) = contrib m c t r e := by
  rw [outsAt0_A m c t ht (by omega) (by omega)]
  unfold out0_A_5 contrib
  rw [View.read_writes_eq_canon _ _ _ (cover0_A_5 _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread]
  generalize iblk m c 0 t = z0
  generalize iblk m c 1 t = z1
  generalize iblk m c 2 t = z2
  canon_tiles x h
  all_goals
    idx_vars x
    simp at h0 h1 h2
    obtain rfl : e = x2 := Fin.ext h2
    pointwise [k0_pay1, k0_pay5, k0_pay6, chunkSum, activation]
    simp only [← h1, Fin.eta]

/-- After a chunk in the middle its contribution is added. -/
theorem next_apply (t : Fin cfg0.N) (ht : 1 ≤ t.val % 4 ∧ t.val % 4 ≤ 2) (r : Fin 512) (e : Fin 2048) :
    (outsAt0 m c t.val t.isLt).1 (ix3 0 r e) = prev m c t (ix3 0 r e) + contrib m c t r e := by
  rw [outsAt0_B m c t (by omega) ht (by omega)]
  unfold out0_B_5 contrib prev
  rw [View.read_writes_eq_canon _ _ _ (cover0_B_5 _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_5 t).read_unread]
  generalize iblk m c 0 t = z0
  generalize iblk m c 1 t = z1
  generalize iblk m c 2 t = z2
  generalize (outsAt0 m c (t.val - 1) _).1 = z6
  canon_tiles x h
  all_goals
    idx_vars x
    simp at h0 h1 h2
    obtain rfl : e = x2 := Fin.ext h2
    pointwise [k0_pay2, k0_pay7, k0_pay8, k0_pay9, chunkSum, activation]
    simp only [← h1, Fin.eta]

/-- After the last chunk the sum is gated and added to the residual. -/
theorem last_apply (t : Fin cfg0.N) (ht : t.val % 4 = 3) (r : Fin 512) (e : Fin 2048) :
    (outsAt0 m c t.val t.isLt).1 (ix3 0 r e)
      = residual m c t r e + gate m c t e * (prev m c t (ix3 0 r e) + contrib m c t r e) := by
  rw [outsAt0_C m c t (by omega) (by omega) ht]
  unfold out0_C_5 contrib prev residual gate chunkSum activation
  rw [View.read_writes_eq_canon _ _ _ (cover0_C_5 _ _ _ _ _ _ _ _ _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread]
  generalize iblk m c 0 t = z0
  generalize iblk m c 1 t = z1
  generalize iblk m c 2 t = z2
  generalize iblk m c 3 t = z3
  generalize iblk m c 4 t = z4
  generalize (outsAt0 m c (t.val - 1) _).1 = z6
  canon_tiles x h
  all_goals
    idx_vars x
    simp at h0 h1 h2
    obtain rfl : e = x2 := Fin.ext h2
    pointwise [k0_pay3, k0_pay4, k0_pay10, k0_pay11, k0_pay12, k0_pay13, k0_pay14, k0_pay15]
    simp only [← h1, Fin.eta]

/-- The second block then holds the factor that divides a row of the first by its root mean square. -/
theorem scale_apply (t : Fin cfg0.N) (ht : t.val % 4 = 3) (r : Fin 512) (l : Fin 128) :
    (outsAt0 m c t.val t.isLt).2 (ix3 0 r l)
      = rmsScale fun e => residual m c t r e + gate m c t e * (prev m c t (ix3 0 r e) + contrib m c t r e) := by
  rw [outsAt0_C m c t (by omega) (by omega) ht]
  unfold out0_C_6 contrib prev residual gate rmsScale chunkSum activation
  rw [View.read_writes_eq_canon _ _ _ (cover0_C_6 _ _ _ _ _ _ _ _ _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread]
  generalize iblk m c 0 t = z0
  generalize iblk m c 1 t = z1
  generalize iblk m c 2 t = z2
  generalize iblk m c 3 t = z3
  generalize iblk m c 4 t = z4
  generalize (outsAt0 m c (t.val - 1) _).1 = z6
  canon_tiles x h
  all_goals
    idx_vars x
    simp at h0 h1 h2
    pointwise [k0_pay3, k0_pay4, k0_pay10, k0_pay11, k0_pay12, k0_pay13, k0_pay14, k0_pay15]
    simp only [← h1, Fin.eta]

end Cert.FirstStep

end
-- ==== Proof.FirstArray.lean ====
/-
  What the first layer's squared-ReLU kernel leaves in its two result arrays: the residual stream after the layer, and
  for every row of it the factor that divides it by its root mean square, in each of 128 lanes.
-/
module

public import proofs.«01_k».proof.Proof.FirstStep

@[expose] public section

set_option maxRecDepth 16384

noncomputable section

open Idealize.ShloMosaic Idealize.ShloMosaic.TcCoe
open Cert.FirstMlpIdeal Cert.FirstMlpIdeal.Gen

namespace Cert.FirstStep

open Cert.SqRelu

/-- The residual stream's whole array. -/
def streams (h : Rows) (w1 : Weight1) (w2 : Weight2) (x : Rows) (mod : Mods) (i : S4x4096x2048.Idx) : EReal :=
  stream h w1 w2 x mod 0 (i 0) (i 1) (i 2)

/-- The factors' whole array. -/
def scales (h : Rows) (w1 : Weight1) (w2 : Weight2) (x : Rows) (mod : Mods) (i : S4x4096x128.Idx) : EReal :=
  rmsScale (stream h w1 w2 x mod 0 (i 0) (i 1))

variable (m : (ℓ : Loc nD τ sig) → Buf (Elt Ideal) ℓ) (c : Dev nD)

/-- The five arguments, as arrays of extended reals. -/
abbrev argH : Rows := m ((c : Thread nD τ).loc main_arg0)
@[inherit_doc argH] abbrev argW1 : Weight1 := m ((c : Thread nD τ).loc main_arg1)
@[inherit_doc argH] abbrev argW2 : Weight2 := m ((c : Thread nD τ).loc main_arg2)
@[inherit_doc argH] abbrev argX : Rows := m ((c : Thread nD τ).loc main_arg3)
@[inherit_doc argH] abbrev argMod : Mods := m ((c : Thread nD τ).loc main_arg4)

/-! ## The arrays that the region is entered with -/

theorem entry_h (b : Fin 4) (p : Fin 4096) (d : Fin 2048) : V m c main_v1 (ix3 b p d) = argH m c (ix3 b p d) := by
  entry_read
  pointwise

theorem entry_w1 (l : Fin 2) (d : Fin 2048) (f : Fin 8192) : V m c main_v2 (ix3 l d f) = argW1 m c (ix3 l d f) := by
  entry_read
  pointwise

theorem entry_w2 (l : Fin 2) (f : Fin 8192) (e : Fin 2048) : V m c main_v3 (ix3 l f e) = argW2 m c (ix3 l f e) := by
  entry_read
  pointwise

theorem entry_x (b : Fin 4) (p : Fin 4096) (d : Fin 2048) : V m c main_arg3 (ix3 b p d) = argX m c (ix3 b p d) := by
  rw [V_main_arg3]

theorem entry_mod (l : Fin 2) (b : Fin 8) (e : Fin 2048) :
    V m c main_v0 (ix5 l b 5 0 e) = argMod m c (ix3 l b ⟨10240 + e.val, by omega⟩) := by
  entry_read
  pointwise

/-- Which blocks point `t` reads and writes. -/
theorem blocks_at : ∀ t : Fin grid0.N, win0_0.index t = ![t.val / 32, t.val / 4 % 8, 0]
    ∧ win0_1.index t = ![0, 0, t.val % 4] ∧ win0_2.index t = ![0, t.val % 4, 0]
    ∧ win0_3.index t = ![t.val / 32, t.val / 4 % 8, 0] ∧ win0_4.index t = ![0, t.val / 32, 5, 0, 0]
    ∧ win0_5.index t = ![t.val / 32, t.val / 4 % 8, 0] ∧ win0_6.index t = ![t.val / 32, t.val / 4 % 8, 0] := by decide +kernel

theorem point_lt (t : Fin cfg0.N) : t.val < 128 := t.isLt.trans_eq N_0

section Point

variable (t : Fin cfg0.N) (b : Fin 4) (p : Fin 4096) (r : Fin 512) (n : Fin 4) (hb : b.val = t.val / 32)
  (hp : p.val = t.val / 4 % 8 * 512 + r.val) (hn : n.val = t.val % 4)

include hb hp in
theorem iblk_h (d : Fin 2048) : iblk m c 0 t (ix3 0 r d) = argH m c (ix3 b p d) := by
  rw [← entry_h]
  blk_ext [iblk, blocks_at t]

include hn in
theorem iblk_w1 (d f : Fin 2048) : iblk m c 1 t (ix3 0 d f) = argW1 m c (ix3 0 d (column n f)) := by
  rw [← entry_w1]
  blk_ext [iblk, blocks_at t, column]

include hn in
theorem iblk_w2 (f e : Fin 2048) : iblk m c 2 t (ix3 0 f e) = argW2 m c (ix3 0 (column n f) e) := by
  rw [← entry_w2]
  blk_ext [iblk, blocks_at t, column]

include hb hp in
theorem residual_eq (d : Fin 2048) : residual m c t r d = argX m c (ix3 b p d) := by
  unfold residual
  rw [← entry_x]
  blk_ext [iblk, blocks_at t]

include hb in
theorem gate_eq (e : Fin 2048) : gate m c t e
    = argMod m c (ix3 0 ⟨b.val, b.isLt.trans (by decide)⟩ ⟨10240 + e.val, Nat.add_lt_add_left e.isLt 10240⟩) := by
  unfold gate
  rw [← entry_mod]
  blk_ext [iblk, blocks_at t]

include hb hp hn in
/-- A point's contribution is its chunk's part of the layer's result. -/
theorem contrib_eq (e : Fin 2048) : contrib m c t r e
    = ∑ f, activation (fun d => argH m c (ix3 b p d)) (fun d => argW1 m c (ix3 0 d (column n f)))
        * argW2 m c (ix3 0 (column n f) e) := by
  unfold contrib chunkSum
  refine Finset.sum_congr rfl fun f _ => congrArg₂ _ (congrArg₂ _ ?_ ?_) ?_
  · funext d; exact iblk_h m c t b p r hb hp d
  · funext d; exact iblk_w1 m c t n hn d f
  · exact iblk_w2 m c t n hn f e

end Point

/-- At the last of a block's four points, the block so far and the point's contribution are the layer's result. -/
theorem sum_eq (t : Fin cfg0.N) (ht : t.val % 4 = 3) (b : Fin 4) (p : Fin 4096) (r : Fin 512) (hb : b.val = t.val / 32)
    (hp : p.val = t.val / 4 % 8 * 512 + r.val) (e : Fin 2048) :
    (prev m c t (ix3 0 r e) : EReal) + contrib m c t r e = layer (argH m c) (argW1 m c) (argW2 m c) 0 b p e := by
  have hN := t.isLt
  let t2 : Fin cfg0.N := ⟨t.val - 1, by omega⟩
  let t1 : Fin cfg0.N := ⟨t.val - 1 - 1, by omega⟩
  let t0 : Fin cfg0.N := ⟨t.val - 1 - 1 - 1, by omega⟩
  have e2 : prev m c t (ix3 0 r e) = _ := next_apply m c t2 (by show 1 ≤ (t.val - 1) % 4 ∧ (t.val - 1) % 4 ≤ 2; omega) r e
  have e1 : prev m c t2 (ix3 0 r e) = _ := next_apply m c t1 (by show 1 ≤ (t.val - 1 - 1) % 4 ∧ (t.val - 1 - 1) % 4 ≤ 2; omega) r e
  have e0 : prev m c t1 (ix3 0 r e) = _ := first_apply m c t0 (by show (t.val - 1 - 1 - 1) % 4 = 0; omega) r e
  rw [e2, e1, e0]
  unfold layer
  rw [sum_columns, contrib_eq m c t b p r 3 hb hp ht.symm,
    contrib_eq m c t2 b p r 2 (by simp only [t2]; omega) (by simp only [t2]; omega) (by simp only [t2]; omega),
    contrib_eq m c t1 b p r 1 (by simp only [t1]; omega) (by simp only [t1]; omega) (by simp only [t1]; omega),
    contrib_eq m c t0 b p r 0 (by simp only [t0]; omega) (by simp only [t0]; omega) (by simp only [t0]; omega)]

/-- At such a point the gated sum and the residual make the residual stream. -/
theorem point_eq (t : Fin cfg0.N) (ht : t.val % 4 = 3) (b : Fin 4) (p : Fin 4096) (r : Fin 512) (hb : b.val = t.val / 32)
    (hp : p.val = t.val / 4 % 8 * 512 + r.val) (e : Fin 2048) :
    residual m c t r e + gate m c t e * ((prev m c t (ix3 0 r e) : EReal) + contrib m c t r e)
      = stream (argH m c) (argW1 m c) (argW2 m c) (argX m c) (argMod m c) 0 b p e := by
  rw [residual_eq m c t b p r hb hp, gate_eq m c t b hb, sum_eq m c t ht b p r hb hp]
  rfl

/-- The residual stream after the run. -/
theorem final_streams : (dats m 0 c).arrAt 5 cfg0.N
    = streams (argH m c) (argW1 m c) (argW2 m c) (argX m c) (argMod m c) := by
  refine (dats m 0 c).arrAt_eq_of_covers 5 _ (by decide +kernel) fun t hf y => ?_
  have h3 : t.val % 4 = 3 := (show ∀ t : Fin cfg0.N, (cfg0.win 5).flush t = true → t.val % 4 = 3 by decide +kernel) t hf
  blk_simp
  rw [after0_5]
  have ht := point_lt t
  idx_vars y
  let b : Fin 4 := ⟨t.val / 32, by omega⟩
  let p : Fin 4096 := ⟨t.val / 4 % 8 * 512 + y1.val, by omega⟩
  have hx : (win0_5.blk t).view.emb (ix3 y0 y1 y2) = ix3 b p y2 := by
    funext k
    apply Fin.ext
    fin_cases k <;> blk_simp [blocks_at t, b, p] <;> rfl
  obtain rfl : y0 = 0 := Subsingleton.elim _ _
  rw [hx]
  exact (last_apply m c t h3 y1 y2).trans (point_eq m c t h3 b p y1 rfl rfl y2)

/-- The factors after the run. -/
theorem final_scales : (dats m 0 c).arrAt 6 cfg0.N
    = scales (argH m c) (argW1 m c) (argW2 m c) (argX m c) (argMod m c) := by
  refine (dats m 0 c).arrAt_eq_of_covers 6 _ (by decide +kernel) fun t hf y => ?_
  have h3 : t.val % 4 = 3 := (show ∀ t : Fin cfg0.N, (cfg0.win 6).flush t = true → t.val % 4 = 3 by decide +kernel) t hf
  blk_simp
  rw [after0_6]
  have ht := point_lt t
  idx_vars y
  let b : Fin 4 := ⟨t.val / 32, by omega⟩
  let p : Fin 4096 := ⟨t.val / 4 % 8 * 512 + y1.val, by omega⟩
  have hx : (win0_6.blk t).view.emb (ix3 y0 y1 y2) = ix3 b p y2 := by
    funext k
    apply Fin.ext
    fin_cases k <;> blk_simp [blocks_at t, b, p] <;> rfl
  obtain rfl : y0 = 0 := Subsingleton.elim _ _
  rw [hx]
  exact (scale_apply m c t h3 y1 y2).trans (congrArg rmsScale (funext fun e => point_eq m c t h3 b p y1 rfl rfl e))

end Cert.FirstStep

end
-- ==== Proof.FirstClaim.lean ====
/-
  The claims about the first layer's squared-ReLU: the reference runs and leaves its arguments and every counter as they
  were, and the kernel's two results are the reference's.
-/
module

public import proofs.«01_k».proof.Defs
public import proofs.«01_k».proof.Proof.Gen.FirstMlpIdeal.Value
public import proofs.«01_k».proof.Proof.Gen.FirstMlpReferenceIdeal.Run
public import proofs.«01_k».proof.Proof.FirstArray

@[expose] public section

noncomputable section

open Idealize.ShloMosaic Idealize.ShloMosaic.TcCoe Idealize.SL.Sem

namespace Cert.FirstClaim

theorem reference_frame : Cert.quiescent_FirstMlpReferenceIdeal := fun m g _ =>
  (θ_run _ _ _).mono (fun _ h => ⟨fun c => (h c).2.2, sem_eq_zero_of_no_sems (by decide) _⟩)
    (Cert.FirstMlpReferenceIdeal.Value.run m g)

/-- What array `w` of the kernel's call holds when it has run. -/
abbrev final (w : Fin Cert.FirstMlpIdeal.cfg0.W) (m) (c) :=
  (Cert.FirstMlpIdeal.Gen.dats (F := Ideal) m 0 c).arrAt w Cert.FirstMlpIdeal.cfg0.N

theorem algebraic : Cert.algebraic_FirstMlpIdeal_FirstMlpReferenceIdeal := by
  intro m g m' g' _ heq
  refine ⟨final 5 m, final 6 m, Cert.FirstMlpIdeal.Value.run_blocks m g, ?_⟩
  refine (θ_run _ _ _).mono (fun r h c => ?_) (Cert.FirstMlpReferenceIdeal.Value.run m' g')
  obtain ⟨h0, h1, hk⟩ := h c
  obtain ⟨e0, e1, e2, e3, e4⟩ := heq c
  refine ⟨h0.trans ?_, h1.trans ?_, hk⟩
  · refine Eq.trans ?_ (Cert.FirstStep.final_streams m c).symm
    unfold Cert.FirstStep.argH Cert.FirstStep.argW1 Cert.FirstStep.argW2 Cert.FirstStep.argX Cert.FirstStep.argMod
    rw [← e0, ← e1, ← e2, ← e3, ← e4]
    funext i
    unfold Cert.FirstStep.streams Cert.SqRelu.stream Cert.SqRelu.layer Cert.SqRelu.activation
    idx_vars i
    pointwise
  · refine Eq.trans ?_ (Cert.FirstStep.final_scales m c).symm
    unfold Cert.FirstStep.argH Cert.FirstStep.argW1 Cert.FirstStep.argW2 Cert.FirstStep.argX Cert.FirstStep.argMod
    rw [← e0, ← e1, ← e2, ← e3, ← e4]
    funext i
    unfold Cert.FirstStep.scales Cert.SqRelu.rmsScale Cert.SqRelu.stream Cert.SqRelu.layer Cert.SqRelu.activation
    idx_vars i
    pointwise

end Cert.FirstClaim

end
-- ==== Proof.OutStep.lean ====
/-
  What one grid point of the output projection leaves in its two blocks: 512 rows of the residual stream after the
  projection, and the same rows normed and modulated for the layer that follows.
-/
module

public import proofs.«01_k».proof.Proof.Gen.OutIdeal.Frame
public import proofs.«01_k».proof.Proof.SqRelu
public import Idealize.ShloMosaic.Lib.Claim
public import Idealize.ShloMosaic.Lib.Pipeline.ValueKit

@[expose] public section

set_option maxRecDepth 16384

noncomputable section

open Idealize.ShloMosaic Idealize.ShloMosaic.TcCoe
open Cert.OutIdeal Cert.OutIdeal.Gen

namespace Cert.OutProj

open Cert.SqRelu

/-- The number one, as the programs spell it. -/
abbrev one : EReal := Ideal.ofBits .f32 0x3F800000#32

/-- One entry of a row after the projection: the residual and the gated product. -/
def gated (a w : Fin 2048 → EReal) (x g : EReal) : EReal := x + g * ∑ d, a d * w d

variable (x0 : Vec Ideal S1x512x2048 .bf16) (x1 : Vec Ideal S2048x2048 .bf16) (x2 : Vec Ideal S1x512x2048 .f32)
  (x3 : Vec Ideal S1x1x1x1x2048 .f32) (x4 : Vec Ideal S1x1x2048 .f32) (x5 x6 : Vec Ideal S1x1x1x1x2048 .f32)

/-- Row `r` of the block of the residual stream. -/
def blockRow (r : Fin 512) (e : Fin 2048) : EReal :=
  gated (fun d => x0 (ix3 0 r d)) (fun d => x1 (ix2 d e)) (x2 (ix3 0 r e)) (x3 (ix5 0 0 0 0 e))

theorem stream_apply (r : Fin 512) (e : Fin 2048) :
    out0_7 x0 x1 x2 x3 x4 x5 x6 (ix3 0 r e) = blockRow x0 x1 x2 x3 r e := by
  unfold out0_7 blockRow gated
  canon_tiles x h
  all_goals
    idx_vars x
    simp at h0 h1 h2
    obtain rfl : e = x2 := Fin.ext h2
    pointwise [k0_pay3, k0_pay4, k0_pay8, k0_pay9]
    simp only [← h1, Fin.eta]

theorem normed_apply (r : Fin 512) (e : Fin 2048) :
    out0_8 x0 x1 x2 x3 x4 x5 x6 (ix3 0 r e)
      = normed (blockRow x0 x1 x2 x3 r) e * (x4 (ix3 0 0 e) * (one + x5 (ix5 0 0 0 0 e))) + x6 (ix5 0 0 0 0 e) := by
  unfold out0_8 blockRow gated normed rmsScale
  canon_tiles x h
  all_goals
    idx_vars x
    simp at h0 h1 h2
    obtain rfl : e = x2 := Fin.ext h2
    pointwise [k0_pay1, k0_pay2, k0_pay3, k0_pay5, k0_pay6, k0_pay7, k0_pay8, k0_pay10, k0_pay11]
    simp only [← h1, Fin.eta]

end Cert.OutProj

end
-- ==== Proof.OutArray.lean ====
/-
  What the output projection leaves in its two result arrays: the residual stream after the projection, and its rows
  normed, scaled and shifted for the layer that follows.
-/
module

public import proofs.«01_k».proof.Proof.OutStep

@[expose] public section

set_option maxRecDepth 16384

noncomputable section

open Idealize.ShloMosaic Idealize.ShloMosaic.TcCoe
open Cert.OutIdeal Cert.OutIdeal.Gen

namespace Cert.OutProj

open Cert.SqRelu

/-- The projection's weight, and the gains of both layers' norms. -/
abbrev Weight := (⟨3, ![1, 2048, 2048]⟩ : Shape).Idx → EReal
@[inherit_doc Weight] abbrev Gains := (⟨2, ![2, 2048]⟩ : Shape).Idx → EReal

/-- Row `b`, `p` of the residual stream after the projection: the product is gated by the third of the first layer's
    modulation rows of its batch. -/
def projected (a : Rows) (w : Weight) (x : Rows) (mod : Mods) (b : Fin 4) (p : Fin 4096) (e : Fin 2048) : EReal :=
  gated (fun d => a (ix3 b p d)) (fun d => w (ix3 0 d e)) (x (ix3 b p e))
    (mod (ix3 0 ⟨b.val, b.isLt.trans (by decide)⟩ ⟨4096 + e.val, (Nat.add_lt_add_left e.isLt 4096).trans (by decide)⟩))

/-- The residual stream's whole array. -/
def streams (a : Rows) (w : Weight) (x : Rows) (mod : Mods) (i : S4x4096x2048.Idx) : EReal :=
  projected a w x mod (i 0) (i 1) (i 2)

/-- One entry of the rows that enter the next layer: the gain, the fifth and the fourth modulation rows. -/
def entered (a : Rows) (w : Weight) (x : Rows) (mod : Mods) (g : Gains) (b : Fin 4) (p : Fin 4096) (e : Fin 2048) : EReal :=
  normed (projected a w x mod b p) e * (g (ix2 0 e)
      * (one + mod (ix3 0 ⟨b.val, b.isLt.trans (by decide)⟩ ⟨8192 + e.val, (Nat.add_lt_add_left e.isLt 8192).trans (by decide)⟩)))
    + mod (ix3 0 ⟨b.val, b.isLt.trans (by decide)⟩ ⟨6144 + e.val, (Nat.add_lt_add_left e.isLt 6144).trans (by decide)⟩)

/-- Their whole array. -/
def enteredRows (a : Rows) (w : Weight) (x : Rows) (mod : Mods) (g : Gains) (i : S4x4096x2048.Idx) : EReal :=
  entered a w x mod g (i 0) (i 1) (i 2)

variable (m : (ℓ : Loc nD τ sig) → Buf (Elt Ideal) ℓ) (c : Dev nD)

/-- The five arguments, as arrays of extended reals. -/
abbrev argA : Rows := m ((c : Thread nD τ).loc main_arg0)
@[inherit_doc argA] abbrev argW : Weight := m ((c : Thread nD τ).loc main_arg1)
@[inherit_doc argA] abbrev argX : Rows := m ((c : Thread nD τ).loc main_arg2)
@[inherit_doc argA] abbrev argMod : Mods := m ((c : Thread nD τ).loc main_arg3)
@[inherit_doc argA] abbrev argG : Gains := m ((c : Thread nD τ).loc main_arg4)

/-! ## The arrays that the region is entered with -/

theorem entry_a (b : Fin 4) (p : Fin 4096) (d : Fin 2048) : V m c main_v1 (ix3 b p d) = argA m c (ix3 b p d) := by
  entry_read
  pointwise

theorem entry_w (d e : Fin 2048) : V m c main_v3 (ix2 d e) = argW m c (ix3 0 d e) := by
  entry_read
  pointwise

theorem entry_x (b : Fin 4) (p : Fin 4096) (d : Fin 2048) : V m c main_arg2 (ix3 b p d) = argX m c (ix3 b p d) := by
  rw [V_main_arg2]

theorem entry_gate (l : Fin 2) (b : Fin 8) (e : Fin 2048) :
    V m c main_v0 (ix5 l b 2 0 e) = argMod m c (ix3 l b ⟨4096 + e.val, by omega⟩) := by
  entry_read
  pointwise

theorem entry_shift (l : Fin 2) (b : Fin 8) (e : Fin 2048) :
    V m c main_v0 (ix5 l b 3 0 e) = argMod m c (ix3 l b ⟨6144 + e.val, by omega⟩) := by
  entry_read
  pointwise

theorem entry_scale (l : Fin 2) (b : Fin 8) (e : Fin 2048) :
    V m c main_v0 (ix5 l b 4 0 e) = argMod m c (ix3 l b ⟨8192 + e.val, by omega⟩) := by
  entry_read
  pointwise

theorem entry_g (l : Fin 2) (e : Fin 2048) : V m c main_v4 (ix3 l 0 e) = argG m c (ix2 l e) := by
  entry_read
  pointwise

/-- Which blocks point `t` reads and writes. -/
theorem blocks_at : ∀ t : Fin grid0.N, win0_0.index t = ![t.val / 8, t.val % 8, 0]
    ∧ win0_1.index t = ![0, 0] ∧ win0_2.index t = ![t.val / 8, t.val % 8, 0]
    ∧ win0_3.index t = ![0, t.val / 8, 2, 0, 0] ∧ win0_4.index t = ![0, 0, 0]
    ∧ win0_5.index t = ![0, t.val / 8, 4, 0, 0] ∧ win0_6.index t = ![0, t.val / 8, 3, 0, 0]
    ∧ win0_7.index t = ![t.val / 8, t.val % 8, 0] ∧ win0_8.index t = ![t.val / 8, t.val % 8, 0] := by decide +kernel

theorem point_lt (t : Fin cfg0.N) : t.val < 32 := t.isLt.trans_eq N_0

section Point

variable (t : Fin cfg0.N) (b : Fin 4) (p : Fin 4096) (r : Fin 512) (hb : b.val = t.val / 8)
  (hp : p.val = t.val % 8 * 512 + r.val)

include hb hp in
theorem iblk_a (d : Fin 2048) : iblk m c 0 t (ix3 0 r d) = argA m c (ix3 b p d) := by
  rw [← entry_a]
  blk_ext [iblk, blocks_at t]

theorem iblk_w (d e : Fin 2048) : iblk m c 1 t (ix2 d e) = argW m c (ix3 0 d e) := by
  rw [← entry_w]
  blk_ext [iblk, blocks_at t]

include hb hp in
theorem iblk_x (d : Fin 2048) : iblk m c 2 t (ix3 0 r d) = argX m c (ix3 b p d) := by
  rw [← entry_x]
  blk_ext [iblk, blocks_at t]

include hb in
theorem iblk_gate (e : Fin 2048) : iblk m c 3 t (ix5 0 0 0 0 e) = argMod m c (ix3 0 ⟨b.val, b.isLt.trans (by decide)⟩
      ⟨4096 + e.val, (Nat.add_lt_add_left e.isLt 4096).trans (by decide)⟩) := by
  rw [← entry_gate]
  blk_ext [iblk, blocks_at t]

theorem iblk_g (e : Fin 2048) : iblk m c 4 t (ix3 0 0 e) = argG m c (ix2 0 e) := by
  rw [← entry_g]
  blk_ext [iblk, blocks_at t]

include hb in
theorem iblk_scale (e : Fin 2048) : iblk m c 5 t (ix5 0 0 0 0 e) = argMod m c (ix3 0 ⟨b.val, b.isLt.trans (by decide)⟩
      ⟨8192 + e.val, (Nat.add_lt_add_left e.isLt 8192).trans (by decide)⟩) := by
  rw [← entry_scale]
  blk_ext [iblk, blocks_at t]

include hb in
theorem iblk_shift (e : Fin 2048) : iblk m c 6 t (ix5 0 0 0 0 e) = argMod m c (ix3 0 ⟨b.val, b.isLt.trans (by decide)⟩
      ⟨6144 + e.val, (Nat.add_lt_add_left e.isLt 6144).trans (by decide)⟩) := by
  rw [← entry_shift]
  blk_ext [iblk, blocks_at t]

include hb hp in
/-- A row of the point's block is a row of the residual stream. -/
theorem row_eq (e : Fin 2048) : blockRow (iblk m c 0 t) (iblk m c 1 t) (iblk m c 2 t) (iblk m c 3 t) r e
    = projected (argA m c) (argW m c) (argX m c) (argMod m c) b p e := by
  unfold blockRow projected gated
  rw [iblk_x m c t b p r hb hp, iblk_gate m c t b hb]
  refine congrArg₂ _ rfl (congrArg₂ _ rfl (Finset.sum_congr rfl fun d _ => ?_))
  exact congrArg₂ _ (iblk_a m c t b p r hb hp d) (iblk_w m c t d e)

end Point

/-- The residual stream after the run. -/
theorem final_streams : (dats m 0 c).arrAt 7 cfg0.N = streams (argA m c) (argW m c) (argX m c) (argMod m c) := by
  refine (dats m 0 c).arrAt_eq_of_covers 7 _ (by decide +kernel) fun t hf y => ?_
  blk_simp
  rw [after0_7]
  have ht := point_lt t
  idx_vars y
  let b : Fin 4 := ⟨t.val / 8, by omega⟩
  let p : Fin 4096 := ⟨t.val % 8 * 512 + y1.val, by omega⟩
  have hx : (win0_7.blk t).view.emb (ix3 y0 y1 y2) = ix3 b p y2 := by
    funext k
    apply Fin.ext
    fin_cases k <;> blk_simp [blocks_at t, b, p] <;> rfl
  obtain rfl : y0 = 0 := Subsingleton.elim _ _
  rw [hx]
  exact (stream_apply _ _ _ _ _ _ _ y1 y2).trans (row_eq m c t b p y1 rfl rfl y2)

/-- The rows that enter the next layer. -/
theorem final_entered : (dats m 0 c).arrAt 8 cfg0.N
    = enteredRows (argA m c) (argW m c) (argX m c) (argMod m c) (argG m c) := by
  refine (dats m 0 c).arrAt_eq_of_covers 8 _ (by decide +kernel) fun t hf y => ?_
  blk_simp
  rw [after0_8]
  have ht := point_lt t
  idx_vars y
  let b : Fin 4 := ⟨t.val / 8, by omega⟩
  let p : Fin 4096 := ⟨t.val % 8 * 512 + y1.val, by omega⟩
  have hx : (win0_8.blk t).view.emb (ix3 y0 y1 y2) = ix3 b p y2 := by
    funext k
    apply Fin.ext
    fin_cases k <;> blk_simp [blocks_at t, b, p] <;> rfl
  obtain rfl : y0 = 0 := Subsingleton.elim _ _
  rw [hx]
  refine (normed_apply _ _ _ _ _ _ _ y1 y2).trans ?_
  rw [funext (row_eq m c t b p y1 rfl rfl), iblk_g m c t, iblk_scale m c t b rfl, iblk_shift m c t b rfl]
  rfl

end Cert.OutProj

end
-- ==== Proof.OutClaim.lean ====
/-
  The claims about the output projection: the reference runs and leaves its arguments and every counter as they were,
  and the kernel's two results are the reference's.
-/
module

public import proofs.«01_k».proof.Defs
public import proofs.«01_k».proof.Proof.Gen.OutIdeal.Value
public import proofs.«01_k».proof.Proof.Gen.OutReferenceIdeal.Run
public import proofs.«01_k».proof.Proof.OutArray

@[expose] public section

set_option maxRecDepth 16384

noncomputable section

open Idealize.ShloMosaic Idealize.ShloMosaic.TcCoe Idealize.SL.Sem

namespace Cert.OutClaim

theorem reference_frame : Cert.quiescent_OutReferenceIdeal := fun m g _ =>
  (θ_run _ _ _).mono (fun _ h => ⟨fun c => (h c).2.2, sem_eq_zero_of_no_sems (by decide) _⟩)
    (Cert.OutReferenceIdeal.Value.run m g)

/-- What array `w` of the kernel's call holds when it has run. -/
abbrev final (w : Fin Cert.OutIdeal.cfg0.W) (m) (c) :=
  (Cert.OutIdeal.Gen.dats (F := Ideal) m 0 c).arrAt w Cert.OutIdeal.cfg0.N

section Reference

open Cert.OutReferenceIdeal Cert.OutReferenceIdeal.Gen

variable (a x : FVec Ideal S4x4096x2048 .f32) (w : FVec Ideal S1x2048x2048 .f32) (mod : FVec Ideal S2x8x12288 .f32)
  (g : FVec Ideal S2x2048 .f32)

/-- The reference's residual stream, entry by entry. -/
theorem streams_read : addf x (mulf (broadcastInDim S4x4096x2048 ![0, 1, 2] bcast_S4x1x2048_S4x4096x2048_0_1_2
    (extractStridedSlice S4x1x2048 ![0, 0, 4096] (broadcastInDim S4x1x12288 ![0, 2] bcast_S4x12288_S4x1x12288_0_2
    (shapeCast _ (extractStridedSlice S1x4x12288 ![0, 0, 0] mod slices_S2x8x12288_S1x4x12288_0_0_0)
    shapeCasts_S1x4x12288_S4x12288)) slices_S4x1x12288_S4x1x2048_0_0_4096)) (Host.dotGeneral
    dot_S4x4096x2048_S2048x2048_S4x4096x2048_2_0_01_1_n_n none a (shapeCast _ w shapeCasts_S1x2048x2048_S2048x2048)))
    = Cert.OutProj.streams a w x mod := by
  funext i
  unfold Cert.OutProj.streams Cert.OutProj.projected Cert.OutProj.gated
  idx_vars i
  pointwise

/-- The rows that the reference passes on, given its residual stream. -/
theorem entered_read (s : FVec Ideal S4x4096x2048 .f32) (hs : s = Cert.OutProj.streams a w x mod) :
    truncf .bf16 (addf (mulf (mulf (mulf s (broadcastInDim S4x4096x2048 ![0, 1, 2] bcast_S4x4096x1_S4x4096x2048_0_1_2
    (Host.rsqrt (addf (Host.divf (broadcastInDim S4x4096x1 ![0, 1] bcast_S4x4096_S4x4096x1_0_1 (Host.reduceAdd (mulf
    s s) (constant S_ .f32 0x00000000#32) reducesTo_S4x4096x2048_S4x4096_d2 h_S_)) (broadcastInDim S4x4096x1 ![]
    bcast_S_S4x4096x1 (constant S_ .f32 0x45000000#32))) (broadcastInDim S4x4096x1 ![] bcast_S_S4x4096x1 (constant S_
    .f32 0x358637BD#32)))))) (broadcastInDim S4x4096x2048 ![0, 1, 2] bcast_S1x1x2048_S4x4096x2048_0_1_2
    (broadcastInDim S1x1x2048 ![2] bcast_S2048_S1x1x2048_2 (shapeCast _ (extractStridedSlice S1x2048 ![0, 0] g
    slices_S2x2048_S1x2048_0_0) shapeCasts_S1x2048_S2048)))) (broadcastInDim S4x4096x2048 ![0, 1, 2]
    bcast_S4x1x2048_S4x4096x2048_0_1_2 (addf (broadcastInDim S4x1x2048 ![] bcast_S_S4x1x2048 (constant S_ .f32
    0x3F800000#32)) (extractStridedSlice S4x1x2048 ![0, 0, 8192] (broadcastInDim S4x1x12288 ![0, 2]
    bcast_S4x12288_S4x1x12288_0_2 (shapeCast _ (extractStridedSlice S1x4x12288 ![0, 0, 0] mod
    slices_S2x8x12288_S1x4x12288_0_0_0) shapeCasts_S1x4x12288_S4x12288)) slices_S4x1x12288_S4x1x2048_0_0_8192))))
    (broadcastInDim S4x4096x2048 ![0, 1, 2] bcast_S4x1x2048_S4x4096x2048_0_1_2 (extractStridedSlice S4x1x2048 ![0, 0,
    6144] (broadcastInDim S4x1x12288 ![0, 2] bcast_S4x12288_S4x1x12288_0_2 (shapeCast _ (extractStridedSlice
    S1x4x12288 ![0, 0, 0] mod slices_S2x8x12288_S1x4x12288_0_0_0) shapeCasts_S1x4x12288_S4x12288))
    slices_S4x1x12288_S4x1x2048_0_0_6144))) bitsLt_bf16_f32 = Cert.OutProj.enteredRows a w x mod g := by
  have row (b : Fin 4) (p : Fin 4096) : Cert.OutProj.projected a w x mod b p = fun e => s (ix3 b p e) := by rw [hs]; rfl
  funext i
  unfold Cert.OutProj.enteredRows Cert.OutProj.entered
  idx_vars i
  show _ = Cert.SqRelu.normed (Cert.OutProj.projected a w x mod i0 i1) i2 * (_ * _) + _
  rw [← mul_assoc, row]
  unfold Cert.SqRelu.normed Cert.SqRelu.rmsScale
  clear row hs
  pointwise

end Reference

theorem algebraic : Cert.algebraic_OutIdeal_OutReferenceIdeal := by
  intro m g m' g' _ heq
  refine ⟨final 7 m, final 8 m, Cert.OutIdeal.Value.run_blocks m g, ?_⟩
  refine (θ_run _ _ _).mono (fun r h c => ?_) (Cert.OutReferenceIdeal.Value.run m' g')
  obtain ⟨h0, h1, hk⟩ := h c
  obtain ⟨e0, e1, e2, e3, e4⟩ := heq c
  refine ⟨h0.trans ?_, h1.trans ?_, hk⟩
  · refine Eq.trans ?_ (Cert.OutProj.final_streams m c).symm
    unfold Cert.OutProj.argA Cert.OutProj.argW Cert.OutProj.argX Cert.OutProj.argMod
    rw [← e0, ← e1, ← e2, ← e3]
    exact streams_read _ _ _ _
  · refine Eq.trans ?_ (Cert.OutProj.final_entered m c).symm
    unfold Cert.OutProj.argA Cert.OutProj.argW Cert.OutProj.argX Cert.OutProj.argMod Cert.OutProj.argG
    rw [← e0, ← e1, ← e2, ← e3, ← e4]
    exact entered_read _ _ _ _ _ _ (streams_read _ _ _ _)

end Cert.OutClaim

end
-- ==== Proof.CtxStep.lean ====
/-
  What one grid point of the context's projection leaves in its two blocks: the four heads' keys, each divided by its
  root mean square and multiplied by the gain, and the four heads' values with ones beside them.
-/
module

public import proofs.«01_k».proof.Proof.Gen.CtxIdeal.Frame
public import proofs.«01_k».proof.Proof.SqRelu
public import Idealize.ShloMosaic.Lib.Claim
public import Idealize.ShloMosaic.Lib.Pipeline.ValueKit

@[expose] public section

set_option maxRecDepth 16384

noncomputable section

open Idealize.ShloMosaic Idealize.ShloMosaic.TcCoe
open Cert.CtxIdeal Cert.CtxIdeal.Gen

namespace Cert.CtxProj

open Cert.SqRelu

/-- The number one, as the programs spell it. -/
abbrev one : EReal := Ideal.ofBits .f32 0x3F800000#32

/-- A row `x`, divided by its root mean square, multiplied by the gain and one plus the scale, and shifted. -/
def modulated (x g sc sh : Fin 2048 → EReal) (d : Fin 2048) : EReal := normed x d * (g d * (one + sc d)) + sh d

/-- One column of a row's projection. -/
def project (h w : Fin 2048 → EReal) : EReal := ∑ d, h d * w d

/-- A head's 128 entries, divided by their root mean square and multiplied by the gain. -/
def headNormed (t g : Fin 128 → EReal) (d : Fin 128) : EReal :=
  t d * Ideal.rsqrt (Ideal.div (∑ k, t k * t k) (Ideal.ofBits .f32 0x43000000#32) + Ideal.ofBits .f32 0x358637BD#32) * g d

/-- Entry `d` of head `h`, as a column of the 1024 projected ones: keys first, then values. -/
def keyColumn (h : Fin 4) (d : Fin 128) : Fin 1024 := ⟨h.val * 128 + d.val, by omega⟩
@[inherit_doc keyColumn] def valueColumn (h : Fin 4) (d : Fin 128) : Fin 1024 := ⟨512 + (h.val * 128 + d.val), by omega⟩

variable (x0 : Vec Ideal S1x256x2048 .f32) (x1 x2 : Vec Ideal S1x1x1x1x2048 .f32) (x3 : Vec Ideal S1x1x2048 .f32)
  (x4 : Vec Ideal S2048x1024 .bf16) (x5 x6 : Vec Ideal S1x128 .f32) (x7 x8 : Vec Ideal S256x128 .f32)

/-- Row `r` of the block as it enters the product. -/
def blockRow (r : Fin 256) : Fin 2048 → EReal :=
  modulated (fun d => x0 (ix3 0 r d)) (fun d => x3 (ix3 0 0 d)) (fun d => x2 (ix5 0 0 0 0 d)) (fun d => x1 (ix5 0 0 0 0 d))

theorem row_apply (r : Fin 256) (d : Fin 2048) :
    k0_pay3 (View.ld x3 r0_0) (View.ld x2 r0_1) (View.ld x0 r0_2) (View.ld x1 r0_1) (ix2 r d) = blockRow x0 x1 x2 x3 r d := by
  unfold blockRow modulated normed rmsScale
  pointwise [k0_pay3]

theorem keys_product (r : Fin 256) (j : Fin 512) :
    k0_pay4 (View.ld x3 r0_0) (View.ld x2 r0_1) (View.ld x0 r0_2) (View.ld x1 r0_1) (View.ld x4 r0_3) (ix2 r j)
      = project (blockRow x0 x1 x2 x3 r) fun d => x4 (ix2 d ⟨j.val, by omega⟩) := by
  unfold k0_pay4 project
  simp only [← row_apply]
  generalize k0_pay3 (View.ld x3 r0_0) (View.ld x2 r0_1) (View.ld x0 r0_2) (View.ld x1 r0_1) = A
  pointwise

theorem values_product (r : Fin 256) (j : Fin 512) :
    k0_pay14 (k0_pay3 (View.ld x3 r0_0) (View.ld x2 r0_1) (View.ld x0 r0_2) (View.ld x1 r0_1)) (View.ld x4 r0_9) (ix2 r j)
      = project (blockRow x0 x1 x2 x3 r) fun d => x4 (ix2 d ⟨512 + j.val, by omega⟩) := by
  unfold k0_pay14 project
  simp only [← row_apply]
  generalize k0_pay3 (View.ld x3 r0_0) (View.ld x2 r0_1) (View.ld x0 r0_2) (View.ld x1 r0_1) = A
  pointwise

theorem keys_apply (h : Fin 4) (r : Fin 256) (d : Fin 128) :
    out0_9 x0 x1 x2 x3 x4 x5 x6 x7 x8 (ix4 0 h r d)
      = headNormed (fun k => project (blockRow x0 x1 x2 x3 r) fun i => x4 (ix2 i (keyColumn h k))) (fun k => x6 (ix2 0 k)) d := by
  have key (k : Fin 128) := keys_product x0 x1 x2 x3 x4 r ⟨h.val * 128 + k.val, by omega⟩
  simp only [keyColumn, ← key]
  unfold out0_9 k0_pay24 k0_pay5 k0_pay6 headNormed
  clear key
  unfold k0_pay5
  generalize k0_pay4 (View.ld x3 r0_0) (View.ld x2 r0_1) (View.ld x0 r0_2) (View.ld x1 r0_1) (View.ld x4 r0_3) = A
  canon_tiles x hx
  all_goals
    idx_vars x
    simp at hx0 hx1 hx2 hx3
    obtain rfl : x3 = d := Fin.ext hx3.symm
    obtain rfl : x2 = r := Fin.ext hx2.symm
    pointwise [k0_pay7, k0_pay8, k0_pay9, k0_pay10, k0_pay11, k0_pay12, k0_pay13]
    simp [hx1]

/-- The values' columns, and ones beside them. -/
theorem values_apply (h : Fin 4) (r : Fin 256) (e : Fin 256) :
    out0_10 x0 x1 x2 x3 x4 x5 x6 x7 x8 (ix4 0 h r e)
      = if he : e.val < 128 then project (blockRow x0 x1 x2 x3 r) fun i => x4 (ix2 i (valueColumn h ⟨e.val, he⟩)) else one := by
  have key (k : Fin 128) := values_product x0 x1 x2 x3 x4 r ⟨h.val * 128 + k.val, by omega⟩
  by_cases he : e.val < 128
  · rw [dif_pos he]
    refine Eq.trans ?_ (key ⟨e.val, he⟩)
    clear key
    unfold out0_10 k0_pay25 k0_pay23 k0_pay15
    generalize k0_pay14 (k0_pay3 (View.ld x3 r0_0) (View.ld x2 r0_1) (View.ld x0 r0_2) (View.ld x1 r0_1)) (View.ld x4 r0_9) = A
    canon_tiles x hx
    all_goals
      idx_vars x
      simp at hx0 hx1 hx2 hx3
      first
      | omega
      | obtain rfl : x2 = r := Fin.ext hx2.symm
        pointwise [k0_pay1, k0_pay2, k0_pay16, k0_pay17, k0_pay18, k0_pay19, k0_pay20, k0_pay21, k0_pay22]
        simp [hx1, hx3]
  · rw [dif_neg he]
    clear key
    unfold out0_10 k0_pay25 k0_pay23 k0_pay15
    generalize k0_pay14 (k0_pay3 (View.ld x3 r0_0) (View.ld x2 r0_1) (View.ld x0 r0_2) (View.ld x1 r0_1)) (View.ld x4 r0_9) = A
    canon_tiles x hx
    all_goals
      idx_vars x
      simp at hx0 hx1 hx2 hx3
      first
      | omega
      | pointwise [k0_pay1, k0_pay2, k0_pay16, k0_pay17, k0_pay18, k0_pay19, k0_pay20, k0_pay21, k0_pay22]

end Cert.CtxProj

end
-- ==== Proof.CtxArray.lean ====
/-
  What the context's projection leaves in its two result arrays: the keys of four heads, and their values with 128
  columns of ones beside them.
-/
module

public import proofs.«01_k».proof.Proof.CtxStep

@[expose] public section

set_option maxRecDepth 16384

noncomputable section

open Idealize.ShloMosaic Idealize.ShloMosaic.TcCoe
open Cert.CtxIdeal Cert.CtxIdeal.Gen

namespace Cert.CtxProj

open Cert.SqRelu

/-- The arrays: the context's rows, the gains of both layers' norms, the projections' weight and the keys' gain. -/
abbrev CtxRows := (⟨3, ![4, 256, 2048]⟩ : Shape).Idx → EReal
@[inherit_doc CtxRows] abbrev Gains := (⟨2, ![2, 2048]⟩ : Shape).Idx → EReal
@[inherit_doc CtxRows] abbrev Weight := (⟨3, ![1, 2048, 3072]⟩ : Shape).Idx → EReal
@[inherit_doc CtxRows] abbrev KeyGain := (⟨2, ![1, 128]⟩ : Shape).Idx → EReal

/-- Row `b`, `p` as it enters the product: the first layer's gain, and the second and first parts of the context's
    modulation row. -/
def entered (x : CtxRows) (mod : Mods) (g : Gains) (b : Fin 4) (p : Fin 256) : Fin 2048 → EReal :=
  modulated (fun d => x (ix3 b p d)) (fun d => g (ix2 0 d))
    (fun d => mod (ix3 0 4 ⟨2048 + d.val, (Nat.add_lt_add_left d.isLt 2048).trans (by decide)⟩))
    (fun d => mod (ix3 0 4 ⟨d.val, d.isLt.trans (by decide)⟩))

/-- Column `j` of the 1024 columns of keys and values. -/
def column (x : CtxRows) (mod : Mods) (g : Gains) (w : Weight) (b : Fin 4) (p : Fin 256) (j : Fin 1024) : EReal :=
  project (entered x mod g b p) fun d => w (ix3 0 d ⟨2048 + j.val, Nat.add_lt_add_left j.isLt 2048⟩)

/-- One entry of the keys. -/
def key (x : CtxRows) (mod : Mods) (g : Gains) (w : Weight) (kg : KeyGain) (b h : Fin 4) (p : Fin 256) (d : Fin 128) : EReal :=
  headNormed (fun k => column x mod g w b p (keyColumn h k)) (fun k => kg (ix2 0 k)) d

/-- One entry of the values and of the ones beside them. -/
def value (x : CtxRows) (mod : Mods) (g : Gains) (w : Weight) (b h : Fin 4) (p : Fin 256) (e : Fin 256) : EReal :=
  if he : e.val < 128 then column x mod g w b p (valueColumn h ⟨e.val, he⟩) else one

/-- The whole arrays. -/
def keys (x : CtxRows) (mod : Mods) (g : Gains) (w : Weight) (kg : KeyGain) (i : S4x4x256x128.Idx) : EReal :=
  key x mod g w kg (i 0) (i 1) (i 2) (i 3)
@[inherit_doc keys] def values (x : CtxRows) (mod : Mods) (g : Gains) (w : Weight) (i : S4x4x256x256.Idx) : EReal :=
  value x mod g w (i 0) (i 1) (i 2) (i 3)

variable (m : (ℓ : Loc nD τ sig) → Buf (Elt Ideal) ℓ) (c : Dev nD)

/-- The five arguments, as arrays of extended reals. -/
abbrev argX : CtxRows := m ((c : Thread nD τ).loc main_arg0)
@[inherit_doc argX] abbrev argMod : Mods := m ((c : Thread nD τ).loc main_arg1)
@[inherit_doc argX] abbrev argG : Gains := m ((c : Thread nD τ).loc main_arg2)
@[inherit_doc argX] abbrev argW : Weight := m ((c : Thread nD τ).loc main_arg3)
@[inherit_doc argX] abbrev argKG : KeyGain := m ((c : Thread nD τ).loc main_arg4)

/-! ## The arrays that the region is entered with -/

theorem entry_x (b : Fin 4) (p : Fin 256) (d : Fin 2048) : V m c main_arg0 (ix3 b p d) = argX m c (ix3 b p d) := by
  rw [V_main_arg0]

theorem entry_shift (l : Fin 2) (b : Fin 8) (e : Fin 2048) :
    V m c main_v0 (ix5 l b 0 0 e) = argMod m c (ix3 l b ⟨e.val, e.isLt.trans (by decide)⟩) := by
  entry_read
  pointwise

theorem entry_scale (l : Fin 2) (b : Fin 8) (e : Fin 2048) :
    V m c main_v0 (ix5 l b 1 0 e) = argMod m c (ix3 l b ⟨2048 + e.val, (Nat.add_lt_add_left e.isLt 2048).trans (by decide)⟩) := by
  entry_read
  pointwise

theorem entry_g (l : Fin 2) (e : Fin 2048) : V m c main_v3 (ix3 l 0 e) = argG m c (ix2 l e) := by
  entry_read
  pointwise

theorem entry_w (d : Fin 2048) (e : Fin 3072) : V m c main_v5 (ix2 d e) = argW m c (ix3 0 d e) := by
  entry_read
  pointwise

theorem entry_kg (d : Fin 128) : V m c main_arg4 (ix2 0 d) = argKG m c (ix2 0 d) := by
  rw [V_main_arg4]

/-- Which blocks point `t` reads and writes. -/
theorem blocks_at : ∀ t : Fin grid0.N, win0_0.index t = ![t.val, 0, 0] ∧ win0_1.index t = ![0, 4, 0, 0, 0]
    ∧ win0_2.index t = ![0, 4, 1, 0, 0] ∧ win0_3.index t = ![0, 0, 0] ∧ win0_4.index t = ![0, 2]
    ∧ win0_6.index t = ![0, 0] ∧ win0_9.index t = ![t.val, 0, 0, 0] ∧ win0_10.index t = ![t.val, 0, 0, 0] := by decide +kernel

theorem point_lt (t : Fin cfg0.N) : t.val < 4 := t.isLt.trans_eq N_0

section Point

variable (t : Fin cfg0.N) (b : Fin 4) (hb : b.val = t.val)

include hb in
theorem iblk_x (p : Fin 256) (d : Fin 2048) : iblk m c 0 t (ix3 0 p d) = argX m c (ix3 b p d) := by
  rw [← entry_x]
  blk_ext [iblk, blocks_at t]

theorem iblk_shift (d : Fin 2048) :
    iblk m c 1 t (ix5 0 0 0 0 d) = argMod m c (ix3 0 4 ⟨d.val, d.isLt.trans (by decide)⟩) := by
  rw [← entry_shift]
  blk_ext [iblk, blocks_at t]

theorem iblk_scale (d : Fin 2048) : iblk m c 2 t (ix5 0 0 0 0 d)
    = argMod m c (ix3 0 4 ⟨2048 + d.val, (Nat.add_lt_add_left d.isLt 2048).trans (by decide)⟩) := by
  rw [← entry_scale]
  blk_ext [iblk, blocks_at t]

theorem iblk_g (d : Fin 2048) : iblk m c 3 t (ix3 0 0 d) = argG m c (ix2 0 d) := by
  rw [← entry_g]
  blk_ext [iblk, blocks_at t]

theorem iblk_w (d : Fin 2048) (j : Fin 1024) :
    iblk m c 4 t (ix2 d j) = argW m c (ix3 0 d ⟨2048 + j.val, Nat.add_lt_add_left j.isLt 2048⟩) := by
  rw [← entry_w]
  blk_ext [iblk, blocks_at t]

theorem iblk_kg (d : Fin 128) : iblk m c 6 t (ix2 0 d) = argKG m c (ix2 0 d) := by
  rw [← entry_kg]
  blk_ext [iblk, blocks_at t]

include hb in
/-- A row of the point's block, and its projections. -/
theorem row_eq (p : Fin 256) : blockRow (iblk m c 0 t) (iblk m c 1 t) (iblk m c 2 t) (iblk m c 3 t) p
    = entered (argX m c) (argMod m c) (argG m c) b p := by
  unfold blockRow entered
  rw [funext (iblk_x m c t b hb p), funext (iblk_g m c t), funext (iblk_scale m c t), funext (iblk_shift m c t)]

include hb in
theorem column_eq (p : Fin 256) (j : Fin 1024) :
    project (blockRow (iblk m c 0 t) (iblk m c 1 t) (iblk m c 2 t) (iblk m c 3 t) p) (fun d => iblk m c 4 t (ix2 d j))
      = column (argX m c) (argMod m c) (argG m c) (argW m c) b p j := by
  unfold column
  rw [row_eq m c t b hb p, funext fun d => iblk_w m c t d j]

end Point

/-- The keys after the run. -/
theorem final_keys : (dats m 0 c).arrAt 9 cfg0.N
    = keys (argX m c) (argMod m c) (argG m c) (argW m c) (argKG m c) := by
  refine (dats m 0 c).arrAt_eq_of_covers 9 _ (by decide +kernel) fun t hf y => ?_
  blk_simp
  rw [after0_9]
  have ht := point_lt t
  idx_vars y
  let b : Fin 4 := ⟨t.val, ht⟩
  have hx : (win0_9.blk t).view.emb (ix4 y0 y1 y2 y3) = ix4 b y1 y2 y3 := by
    funext k
    apply Fin.ext
    fin_cases k <;> blk_simp [blocks_at t, b] <;> rfl
  obtain rfl : y0 = 0 := Subsingleton.elim _ _
  rw [hx]
  refine (keys_apply _ _ _ _ _ _ _ _ _ y1 y2 y3).trans ?_
  simp only [column_eq m c t b rfl, iblk_kg]
  rfl

/-- The values and the ones after the run. -/
theorem final_values : (dats m 0 c).arrAt 10 cfg0.N = values (argX m c) (argMod m c) (argG m c) (argW m c) := by
  refine (dats m 0 c).arrAt_eq_of_covers 10 _ (by decide +kernel) fun t hf y => ?_
  blk_simp
  rw [after0_10]
  have ht := point_lt t
  idx_vars y
  let b : Fin 4 := ⟨t.val, ht⟩
  have hx : (win0_10.blk t).view.emb (ix4 y0 y1 y2 y3) = ix4 b y1 y2 y3 := by
    funext k
    apply Fin.ext
    fin_cases k <;> blk_simp [blocks_at t, b] <;> rfl
  obtain rfl : y0 = 0 := Subsingleton.elim _ _
  rw [hx]
  refine (values_apply _ _ _ _ _ _ _ _ _ y1 y2 y3).trans ?_
  simp only [column_eq m c t b rfl]
  rfl

end Cert.CtxProj

end
-- ==== Proof.CtxClaim.lean ====
/-
  The claims about the context's projection: the reference runs and leaves its arguments and every counter as they
  were, and the kernel's two results are the reference's.
-/
module

public import proofs.«01_k».proof.Defs
public import proofs.«01_k».proof.Proof.Gen.CtxIdeal.Value
public import proofs.«01_k».proof.Proof.Gen.CtxReferenceIdeal.Run
public import proofs.«01_k».proof.Proof.CtxArray

@[expose] public section

set_option maxRecDepth 16384

noncomputable section

open Idealize.ShloMosaic Idealize.ShloMosaic.TcCoe Idealize.SL.Sem

namespace Cert.CtxClaim

open Cert.CtxProj

theorem reference_frame : Cert.quiescent_CtxReferenceIdeal := fun m g _ =>
  (θ_run _ _ _).mono (fun _ h => ⟨fun c => (h c).2.2, sem_eq_zero_of_no_sems (by decide) _⟩)
    (Cert.CtxReferenceIdeal.Value.run m g)

/-- What array `w` of the kernel's call holds when it has run. -/
abbrev final (w : Fin Cert.CtxIdeal.cfg0.W) (m) (c) :=
  (Cert.CtxIdeal.Gen.dats (F := Ideal) m 0 c).arrAt w Cert.CtxIdeal.cfg0.N

section Reference

open Cert.CtxReferenceIdeal Cert.CtxReferenceIdeal.Gen

variable (x : FVec Ideal S4x256x2048 .f32) (mod : FVec Ideal S2x8x12288 .f32) (g : FVec Ideal S2x2048 .f32)
  (w : FVec Ideal S1x2048x3072 .f32) (kg : FVec Ideal S1x128 .f32)

/-- The reference's rows as they enter the product. -/
def rows (i : S4x256x2048.Idx) : EReal := entered x mod g (i 0) (i 1) (i 2)

/-- The reference's columns of keys and values. -/
def columns (i : S4x256x1024.Idx) : EReal := column x mod g w (i 0) (i 1) (i 2)

theorem rows_read : addf (mulf (mulf (mulf x (broadcastInDim S4x256x2048 ![0, 1, 2] bcast_S4x256x1_S4x256x2048_0_1_2
    (Host.rsqrt (addf (Host.divf (broadcastInDim S4x256x1 ![0, 1] bcast_S4x256_S4x256x1_0_1 (Host.reduceAdd (mulf x
    x) (constant S_ .f32 0x00000000#32) reducesTo_S4x256x2048_S4x256_d2 h_S_)) (broadcastInDim S4x256x1 ![]
    bcast_S_S4x256x1 (constant S_ .f32 0x45000000#32))) (broadcastInDim S4x256x1 ![] bcast_S_S4x256x1 (constant S_
    .f32 0x358637BD#32)))))) (broadcastInDim S4x256x2048 ![0, 1, 2] bcast_S1x1x2048_S4x256x2048_0_1_2 (broadcastInDim
    S1x1x2048 ![2] bcast_S2048_S1x1x2048_2 (shapeCast _ (extractStridedSlice S1x2048 ![0, 0] g
    slices_S2x2048_S1x2048_0_0) shapeCasts_S1x2048_S2048)))) (broadcastInDim S4x256x2048 ![0, 1, 2]
    bcast_S1x1x2048_S4x256x2048_0_1_2 (broadcastInDim S1x1x2048 ![2] bcast_S2048_S1x1x2048_2 (addf (broadcastInDim
    S2048 ![] bcast_S_S2048 (constant S_ .f32 0x3F800000#32)) (extractStridedSlice S2048 ![2048] (shapeCast _
    (extractStridedSlice S1x1x12288 ![0, 4, 0] mod slices_S2x8x12288_S1x1x12288_0_4_0) shapeCasts_S1x1x12288_S12288)
    slices_S12288_S2048_2048))))) (broadcastInDim S4x256x2048 ![0, 1, 2] bcast_S1x1x2048_S4x256x2048_0_1_2
    (broadcastInDim S1x1x2048 ![2] bcast_S2048_S1x1x2048_2 (extractStridedSlice S2048 ![0] (shapeCast _
    (extractStridedSlice S1x1x12288 ![0, 4, 0] mod slices_S2x8x12288_S1x1x12288_0_4_0) shapeCasts_S1x1x12288_S12288)
    slices_S12288_S2048_0))) = rows x mod g := by
  funext i
  unfold rows entered modulated
  idx_vars i
  simp only [← mul_assoc]
  unfold Cert.SqRelu.normed Cert.SqRelu.rmsScale
  pointwise

theorem columns_read (h : FVec Ideal S4x256x2048 .f32) (hh : h = rows x mod g) :
    (Host.dotGeneral dot_S4x256x2048_S2048x1024_S4x256x1024_2_0_01_1_n_n none h (extractStridedSlice S2048x1024 ![0,
    2048] (shapeCast _ w shapeCasts_S1x2048x3072_S2048x3072) slices_S2048x3072_S2048x1024_0_2048) : FVec Ideal
    S4x256x1024 .f32) = columns x mod g w := by
  have row (b : Fin 4) (p : Fin 256) : entered x mod g b p = fun d => h (ix3 b p d) := by rw [hh]; rfl
  funext i
  unfold columns column project
  idx_vars i
  show _ = ∑ d, entered x mod g i0 i1 d * _
  rw [row]
  clear row hh
  pointwise

theorem keys_read (t : FVec Ideal S4x256x1024 .f32) (ht : t = columns x mod g w) :
    truncf .bf16 (transpose S4x4x256x128 [0, 2, 1, 3] (mulf (mulf (shapeCast _ (extractStridedSlice S4x256x512 ![0,
    0, 0] t slices_S4x256x1024_S4x256x512_0_0_0) shapeCasts_S4x256x512_S4x256x4x128) (broadcastInDim S4x256x4x128
    ![0, 1, 2, 3] bcast_S4x256x4x1_S4x256x4x128_0_1_2_3 (Host.rsqrt (addf (Host.divf (broadcastInDim S4x256x4x1 ![0,
    1, 2] bcast_S4x256x4_S4x256x4x1_0_1_2 (Host.reduceAdd (mulf (shapeCast _ (extractStridedSlice S4x256x512 ![0, 0,
    0] t slices_S4x256x1024_S4x256x512_0_0_0) shapeCasts_S4x256x512_S4x256x4x128) (shapeCast _ (extractStridedSlice
    S4x256x512 ![0, 0, 0] t slices_S4x256x1024_S4x256x512_0_0_0) shapeCasts_S4x256x512_S4x256x4x128)) (constant S_
    .f32 0x00000000#32) reducesTo_S4x256x4x128_S4x256x4_d3 h_S_)) (broadcastInDim S4x256x4x1 ![] bcast_S_S4x256x4x1
    (constant S_ .f32 0x43000000#32))) (broadcastInDim S4x256x4x1 ![] bcast_S_S4x256x4x1 (constant S_ .f32
    0x358637BD#32)))))) (broadcastInDim S4x256x4x128 ![0, 1, 2, 3] bcast_S1x1x1x128_S4x256x4x128_0_1_2_3
    (broadcastInDim S1x1x1x128 ![3] bcast_S128_S1x1x1x128_3 (shapeCast _ kg shapeCasts_S1x128_S128))))
    transposes_S4x256x4x128_S4x4x256x128_0_2_1_3) bitsLt_bf16_f32 = keys x mod g w kg := by
  have col (b : Fin 4) (p : Fin 256) (j : Fin 1024) : column x mod g w b p j = t (ix3 b p j) := by rw [ht]; rfl
  funext i
  unfold keys key headNormed
  idx_vars i
  pointwise [keyColumn]
  simp only [col]

theorem values_read (t : FVec Ideal S4x256x1024 .f32) (ht : t = columns x mod g w) :
    concatenate S4x4x256x256 3 [⟨S4x4x256x128, (transpose S4x4x256x128 [0, 2, 1, 3] (shapeCast _ (extractStridedSlice
    S4x256x512 ![0, 0, 512] t slices_S4x256x1024_S4x256x512_0_0_512) shapeCasts_S4x256x512_S4x256x4x128)
    transposes_S4x256x4x128_S4x4x256x128_0_2_1_3)⟩, ⟨S4x4x256x128, (broadcastInDim S4x4x256x128 ![]
    bcast_S_S4x4x256x128 (constant S_ .f32 0x3F800000#32))⟩] concatenates_S4x4x256x128_S4x4x256x128_S4x4x256x256_d3 =
    values x mod g w := by
  have col (b : Fin 4) (p : Fin 256) (j : Fin 1024) : column x mod g w b p j = t (ix3 b p j) := by rw [ht]; rfl
  funext i
  unfold values value
  idx_vars i
  by_cases he : i3.val < 128
  · refine Eq.trans ?_ (dif_pos he).symm
    refine (concatenate_pair_apply_left (t := S4x4x256x256) (s₁ := S4x4x256x128) (s₂ := S4x4x256x128) 3 _ _ _ _ rfl
      (ix4 i0 i1 i2 ⟨i3.val, he⟩) (fun b => by fin_cases b <;> rfl)).trans ?_
    pointwise [valueColumn]
    simp only [col]
  · refine Eq.trans ?_ (dif_neg he).symm
    refine (concatenate_pair_apply_right (t := S4x4x256x256) (s₁ := S4x4x256x128) (s₂ := S4x4x256x128) 3 _ _ _ _ rfl
      rfl (ix4 i0 i1 i2 ⟨i3.val - 128, by omega⟩) (fun b hb => by fin_cases b <;> first | rfl | exact absurd rfl hb)
      (by show i3.val - 128 + 128 = i3.val; omega)).trans ?_
    pointwise

end Reference

theorem algebraic : Cert.algebraic_CtxIdeal_CtxReferenceIdeal := by
  intro m g m' g' _ heq
  refine ⟨final 9 m, final 10 m, Cert.CtxIdeal.Value.run_blocks m g, ?_⟩
  refine (θ_run _ _ _).mono (fun r h c => ?_) (Cert.CtxReferenceIdeal.Value.run m' g')
  obtain ⟨h0, h1, hk⟩ := h c
  obtain ⟨e0, e1, e2, e3, e4⟩ := heq c
  refine ⟨h0.trans ?_, h1.trans ?_, hk⟩
  · refine Eq.trans ?_ (final_keys m c).symm
    unfold argX argMod argG argW argKG
    rw [← e0, ← e1, ← e2, ← e3, ← e4]
    exact keys_read _ _ _ _ _ _ (columns_read _ _ _ _ _ (rows_read _ _ _))
  · refine Eq.trans ?_ (final_values m c).symm
    unfold argX argMod argG argW
    rw [← e0, ← e1, ← e2, ← e3]
    exact values_read _ _ _ _ _ (columns_read _ _ _ _ _ (rows_read _ _ _))

end Cert.CtxClaim

end
-- ==== Proof.ModStep.lean ====
/-
  What the modulation kernel leaves in its result: for each layer and each of eight condition rows, the row's gated
  linear unit times the layer's weight, and the bias.
-/
module

public import proofs.«01_k».proof.Proof.Gen.ModulationIdeal.Frame
public import proofs.«01_k».proof.Proof.SqRelu
public import Idealize.ShloMosaic.Lib.Claim
public import Idealize.ShloMosaic.Lib.Pipeline.ValueKit

@[expose] public section

set_option maxRecDepth 16384

noncomputable section

open Idealize.ShloMosaic Idealize.ShloMosaic.TcCoe
open Cert.ModulationIdeal Cert.ModulationIdeal.Gen

namespace Cert.ModStep

/-- The words of zero and of one. -/
abbrev zero : EReal := Ideal.ofBits .f32 0x00000000#32
@[inherit_doc zero] abbrev one : EReal := Ideal.ofBits .f32 0x3F800000#32

/-- The sigmoid-weighted unit, as the kernel writes it. -/
def silu (x : EReal) : EReal := Ideal.div x (one + Ideal.exp (zero - x))

/-- The arrays: the conditions of the batch, the context's, the weights and the biases of both layers. -/
abbrev Conds := (⟨2, ![4, 2048]⟩ : Shape).Idx → EReal
@[inherit_doc Conds] abbrev CtxCond := (⟨1, ![2048]⟩ : Shape).Idx → EReal
@[inherit_doc Conds] abbrev Weights := (⟨3, ![2, 2048, 12288]⟩ : Shape).Idx → EReal
@[inherit_doc Conds] abbrev Biases := (⟨2, ![2, 12288]⟩ : Shape).Idx → EReal

/-- The eight condition rows: the batch's four, the context's, and three of zeros. -/
def condRow (c : Conds) (cc : CtxCond) (r : Fin 8) (d : Fin 2048) : EReal :=
  if h : r.val < 4 then c (ix2 ⟨r.val, h⟩ d) else if r.val = 4 then cc (ix1 d) else zero

/-- One entry of the result. -/
def entry (c : Conds) (cc : CtxCond) (w : Weights) (b : Biases) (l : Fin 2) (r : Fin 8) (e : Fin 12288) : EReal :=
  (∑ d, silu (condRow c cc r d) * w (ix3 l d e)) + b (ix2 l e)

/-- The whole result. -/
def result (c : Conds) (cc : CtxCond) (w : Weights) (b : Biases) (i : S2x8x12288.Idx) : EReal := entry c cc w b (i 0) (i 1) (i 2)

theorem out_apply (x0 : Vec Ideal S8x2048 .f32) (x1 : Vec Ideal S1x2048x1024 .f32) (x2 : Vec Ideal S1x1x1024 .f32) (r : Fin 8)
    (e : Fin 1024) : out0_3 x0 x1 x2 (ix3 0 r e) = (∑ d, silu (x0 (ix2 r d)) * x1 (ix3 0 d e)) + x2 (ix3 0 0 e) := by
  unfold out0_3 silu
  canon_tiles x h
  all_goals
    idx_vars x
    simp at h0 h1 h2
    obtain rfl : e = x2 := Fin.ext h2
    obtain rfl : r = x1 := Fin.ext h1
    pointwise [k0_pay1]

variable (m : (ℓ : Loc nD τ sig) → Buf (Elt Ideal) ℓ) (c : Dev nD)

/-- The four arguments, as arrays of extended reals. -/
abbrev argC : Conds := m ((c : Thread nD τ).loc main_arg0)
@[inherit_doc argC] abbrev argCC : CtxCond := m ((c : Thread nD τ).loc main_arg1)
@[inherit_doc argC] abbrev argW : Weights := m ((c : Thread nD τ).loc main_arg2)
@[inherit_doc argC] abbrev argB : Biases := m ((c : Thread nD τ).loc main_arg3)

/-- The condition rows that the region is entered with: the conditions, no row at all, the context's row and zeros. -/
theorem entry_concat : V m c main_v3 = concatenate (α := Ideal .f32) S8x2048 0 [⟨S4x2048, argC m c⟩,
    ⟨S0x2048, broadcastInDim S0x2048 ![] bcast_S_S0x2048 (constant S_ .f32 0x00000000#32 : FVec Ideal S_ .f32)⟩,
    ⟨S1x2048, broadcastInDim S1x2048 ![1] bcast_S2048_S1x2048_1 (argCC m c)⟩,
    ⟨S3x2048, broadcastInDim S3x2048 ![] bcast_S_S3x2048 (constant S_ .f32 0x00000000#32 : FVec Ideal S_ .f32)⟩]
      concatenates_S4x2048_S0x2048_S1x2048_S3x2048_S8x2048_d0 := by
  unfold V hostOps0
  after_results_simp <;> (try dsimp only [Matrix.cons_val]) <;> (try after_results_simp) <;> rfl

theorem entry_rows (r : Fin 8) (d : Fin 2048) : V m c main_v3 (ix2 r d) = condRow (argC m c) (argCC m c) r d := by
  rw [entry_concat]
  unfold condRow
  by_cases h : r.val < 4
  · refine Eq.trans ?_ (dif_pos h).symm
    exact concatenate_apply_piece (t := S8x2048) 0 _ _ (ix2 r d) 0 (by simp) S4x2048 _ rfl rfl 0 rfl (ix2 ⟨r.val, h⟩ d)
      (fun a ha => by fin_cases a <;> first | rfl | exact absurd rfl ha) (Nat.zero_add _)
  · refine Eq.trans ?_ (dif_neg h).symm
    by_cases h4 : r.val = 4
    · refine Eq.trans ?_ (if_pos h4).symm
      refine (concatenate_apply_piece (t := S8x2048) 0 _ _ (ix2 r d) 2 (by simp) S1x2048 _ rfl rfl 4 rfl (ix2 0 d)
        (fun a ha => by fin_cases a <;> first | rfl | exact absurd rfl ha) (by show 4 + 0 = r.val; omega)).trans ?_
      pointwise
    · refine Eq.trans ?_ (if_neg h4).symm
      refine (concatenate_apply_piece (t := S8x2048) 0 _ _ (ix2 r d) 3 (by simp) S3x2048 _ rfl rfl 5 rfl
        (ix2 ⟨r.val - 5, by omega⟩ d) (fun a ha => by fin_cases a <;> first | rfl | exact absurd rfl ha)
        (by show 5 + (r.val - 5) = r.val; omega)).trans ?_
      pointwise

theorem entry_w (l : Fin 2) (d : Fin 2048) (e : Fin 12288) : V m c main_arg2 (ix3 l d e) = argW m c (ix3 l d e) := by
  rw [V_main_arg2]

theorem entry_b (l : Fin 2) (e : Fin 12288) : V m c main_v4 (ix3 l 0 e) = argB m c (ix2 l e) := by
  entry_read
  pointwise

/-- Which blocks point `t` reads and writes. -/
theorem blocks_at : ∀ t : Fin grid0.N, win0_0.index t = ![0, 0] ∧ win0_1.index t = ![t.val / 12, 0, t.val % 12]
    ∧ win0_2.index t = ![t.val / 12, 0, t.val % 12] ∧ win0_3.index t = ![t.val / 12, 0, t.val % 12] := by decide +kernel

theorem point_lt (t : Fin cfg0.N) : t.val < 24 := t.isLt.trans_eq N_0

section Point

variable (t : Fin cfg0.N) (l : Fin 2) (e : Fin 12288) (k : Fin 1024) (hl : l.val = t.val / 12)
  (he : e.val = t.val % 12 * 1024 + k.val)

theorem iblk_rows (r : Fin 8) (d : Fin 2048) : iblk m c 0 t (ix2 r d) = condRow (argC m c) (argCC m c) r d := by
  rw [← entry_rows]
  blk_ext [iblk, blocks_at t]

include hl he in
theorem iblk_w (d : Fin 2048) : iblk m c 1 t (ix3 0 d k) = argW m c (ix3 l d e) := by
  rw [← entry_w]
  blk_ext [iblk, blocks_at t]

include hl he in
theorem iblk_b : iblk m c 2 t (ix3 0 0 k) = argB m c (ix2 l e) := by
  rw [← entry_b]
  blk_ext [iblk, blocks_at t]

end Point

/-- The result after the run. -/
theorem final_result : (dats m 0 c).arrAt 3 cfg0.N = result (argC m c) (argCC m c) (argW m c) (argB m c) := by
  refine (dats m 0 c).arrAt_eq_of_covers 3 _ (by decide +kernel) fun t hf y => ?_
  blk_simp
  rw [after0_3]
  have ht := point_lt t
  idx_vars y
  let l : Fin 2 := ⟨t.val / 12, by omega⟩
  let e : Fin 12288 := ⟨t.val % 12 * 1024 + y2.val, by omega⟩
  have hx : (win0_3.blk t).view.emb (ix3 y0 y1 y2) = ix3 l y1 e := by
    funext k
    apply Fin.ext
    fin_cases k <;> blk_simp [blocks_at t, l, e] <;> rfl
  obtain rfl : y0 = 0 := Subsingleton.elim _ _
  rw [hx]
  refine (out_apply _ _ _ y1 y2).trans ?_
  show _ = entry _ _ _ _ l y1 e
  unfold entry
  rw [iblk_b m c t l e y2 rfl rfl]
  refine congrArg (· + _) (Finset.sum_congr rfl fun d _ => ?_)
  rw [iblk_rows, iblk_w m c t l e y2 rfl rfl]

end Cert.ModStep

end
-- ==== Proof.ModClaim.lean ====
/-
  The claims about the modulations: the reference runs and leaves its arguments and every counter as they were, and the
  kernel's result is the reference's.
-/
module

public import proofs.«01_k».proof.Defs
public import proofs.«01_k».proof.Proof.Gen.ModulationIdeal.Value
public import proofs.«01_k».proof.Proof.Gen.ModulationReferenceIdeal.Run
public import proofs.«01_k».proof.Proof.ModStep

@[expose] public section

set_option maxRecDepth 16384

noncomputable section

open Idealize.ShloMosaic Idealize.ShloMosaic.TcCoe Idealize.SL.Sem

namespace Cert.ModClaim

open Cert.ModStep

theorem reference_frame : Cert.quiescent_ModulationReferenceIdeal := fun m g _ =>
  (θ_run _ _ _).mono (fun _ h => ⟨fun c => (h c).2, sem_eq_zero_of_no_sems (by decide) _⟩)
    (Cert.ModulationReferenceIdeal.Value.run m g)

/-- The exponential is nowhere negative. -/
theorem exp_nonneg (x : EReal) : 0 ≤ Ideal.exp x := by
  induction x with
  | bot => exact le_refl _
  | top => exact le_top
  | coe r => exact EReal.coe_nonneg.2 (Real.exp_pos r).le

theorem one_eq : one = 1 := by
  simp [one, Ideal.ofBits, Ideal.ieee]
  rw [← EReal.coe_mul]
  norm_num

theorem zero_eq : zero = 0 := by simp [zero, Ideal.ofBits, Ideal.ieee]

/-- A quotient by one plus an exponential is a product with its inverse. -/
theorem silu_eq (x : EReal) : silu x = x * Ideal.div one (one + Ideal.exp (-x)) := by
  unfold silu
  rw [zero_eq, zero_sub, one_eq]
  have h : (1 : EReal) + Ideal.exp (-x) ≠ 0 := fun h0 => by
    have h1 : (1 : EReal) ≤ 1 + Ideal.exp (-x) := le_add_of_nonneg_right (exp_nonneg _)
    rw [h0] at h1
    exact absurd h1 (not_le.2 zero_lt_one)
  simp only [Ideal.div, if_neg h, one_mul]

section Reference

open Cert.ModulationReferenceIdeal Cert.ModulationReferenceIdeal.Gen

variable (c : FVec Ideal S4x2048 .f32) (cc : FVec Ideal S2048 .f32) (w : FVec Ideal S2x2048x12288 .f32)
  (b : FVec Ideal S2x12288 .f32)

/-- The reference's condition rows. -/
theorem rows_read (r : Fin 8) (d : Fin 2048) :
    (((concatenate S8x2048 0 [⟨S4x2048, (c : (⟨S4x2048, .f32⟩ : BufTy).Contents (Elt Ideal))⟩, ⟨S1x2048,
    ((broadcastInDim S1x2048 ![1] bcast_S2048_S1x2048_1 cc) : (⟨S1x2048, .f32⟩ : BufTy).Contents (Elt Ideal))⟩,
    ⟨S3x2048, ((broadcastInDim S3x2048 ![] bcast_S_S3x2048 (constant S_ .f32 0x00000000#32 : FVec Ideal S_ .f32)) :
    (⟨S3x2048, .f32⟩ : BufTy).Contents (Elt Ideal))⟩] concatenates_S4x2048_S1x2048_S3x2048_S8x2048_d0 : (⟨S8x2048,
    .f32⟩ : BufTy).Contents (Elt Ideal))) : FVec Ideal S8x2048 .f32) (ix2 r d) = condRow c cc r d := by
  unfold condRow
  by_cases h : r.val < 4
  · refine Eq.trans ?_ (dif_pos h).symm
    exact concatenate_apply_piece (t := S8x2048) 0 _ _ (ix2 r d) 0 (by simp) S4x2048 c rfl rfl 0 rfl (ix2 ⟨r.val, h⟩ d)
      (fun a ha => by fin_cases a <;> first | rfl | exact absurd rfl ha) (Nat.zero_add _)
  · refine Eq.trans ?_ (dif_neg h).symm
    by_cases h4 : r.val = 4
    · refine Eq.trans ?_ (if_pos h4).symm
      refine (concatenate_apply_piece (t := S8x2048) 0 _ _ (ix2 r d) 1 (by simp) S1x2048 _ rfl rfl 4 rfl (ix2 0 d)
        (fun a ha => by fin_cases a <;> first | rfl | exact absurd rfl ha) (by show 4 + 0 = r.val; omega)).trans ?_
      pointwise
    · refine Eq.trans ?_ (if_neg h4).symm
      refine (concatenate_apply_piece (t := S8x2048) 0 _ _ (ix2 r d) 2 (by simp) S3x2048 _ rfl rfl 5 rfl
        (ix2 ⟨r.val - 5, by omega⟩ d) (fun a ha => by fin_cases a <;> first | rfl | exact absurd rfl ha)
        (by show 5 + (r.val - 5) = r.val; omega)).trans ?_
      pointwise

/-- The reference's gated linear unit. -/
theorem unit_read (t : FVec Ideal S8x2048 .f32) (r : Fin 8) (d : Fin 2048) :
    (mulf t (Host.divf (broadcastInDim S8x2048 ![] bcast_S_S8x2048 (constant S_ .f32 0x3F800000#32)) (addf
    (broadcastInDim S8x2048 ![] bcast_S_S8x2048 (constant S_ .f32 0x3F800000#32)) (Host.exp (Host.negf t)))) : FVec
    Ideal S8x2048 .f32) (ix2 r d) = silu (t (ix2 r d)) := by
  rw [silu_eq]
  unfold one
  pointwise

theorem first_read (s : FVec Ideal S8x2048 .f32) (r : Fin 8) (e : Fin 12288) :
    (addf (Host.dotGeneral dot_S8x2048_S2048x12288_S8x12288_1_0_0_1_n_n none s (shapeCast _ (extractStridedSlice
    S1x2048x12288 ![0, 0, 0] w slices_S2x2048x12288_S1x2048x12288_0_0_0) shapeCasts_S1x2048x12288_S2048x12288))
    (broadcastInDim S8x12288 ![0, 1] bcast_S1x12288_S8x12288_0_1 (broadcastInDim S1x12288 ![1]
    bcast_S12288_S1x12288_1 (shapeCast _ (extractStridedSlice S1x12288 ![0, 0] b slices_S2x12288_S1x12288_0_0)
    shapeCasts_S1x12288_S12288)))) (ix2 r e) = (∑ d : Fin 2048, s (ix2 r d) * w (ix3 0 d e)) + b (ix2 0 e) := by
  pointwise

theorem second_read (s : FVec Ideal S8x2048 .f32) (r : Fin 8) (e : Fin 12288) :
    (addf (Host.dotGeneral dot_S8x2048_S2048x12288_S8x12288_1_0_0_1_n_n none s (shapeCast _ (extractStridedSlice
    S1x2048x12288 ![1, 0, 0] w slices_S2x2048x12288_S1x2048x12288_1_0_0) shapeCasts_S1x2048x12288_S2048x12288))
    (broadcastInDim S8x12288 ![0, 1] bcast_S1x12288_S8x12288_0_1 (broadcastInDim S1x12288 ![1]
    bcast_S12288_S1x12288_1 (shapeCast _ (extractStridedSlice S1x12288 ![1, 0] b slices_S2x12288_S1x12288_1_0)
    shapeCasts_S1x12288_S12288)))) (ix2 r e) = (∑ d : Fin 2048, s (ix2 r d) * w (ix3 1 d e)) + b (ix2 1 e) := by
  pointwise

/-- The two layers, one after the other. -/
theorem stack_read (y0 y1 : FVec Ideal S8x12288 .f32) (l : Fin 2) (r : Fin 8) (e : Fin 12288) :
    (concatenate S2x8x12288 0 [⟨S1x8x12288, (broadcastInDim S1x8x12288 ![1, 2] bcast_S8x12288_S1x8x12288_1_2 y0)⟩,
    ⟨S1x8x12288, (broadcastInDim S1x8x12288 ![1, 2] bcast_S8x12288_S1x8x12288_1_2 y1)⟩]
    concatenates_S1x8x12288_S1x8x12288_S2x8x12288_d0 : FVec Ideal S2x8x12288 .f32) (ix3 l r e) = if l = 0 then y0
    (ix2 r e) else y1 (ix2 r e) := by
  fin_cases l
  · refine (concatenate_pair_apply_left (t := S2x8x12288) (s₁ := S1x8x12288) (s₂ := S1x8x12288) 0 _ _ _ _ rfl
      (ix3 0 r e) (fun b => by fin_cases b <;> rfl)).trans ?_
    pointwise
  · refine (concatenate_pair_apply_right (t := S2x8x12288) (s₁ := S1x8x12288) (s₂ := S1x8x12288) 0 _ _ _ _ rfl
      rfl (ix3 0 r e) (fun b hb => by fin_cases b <;> first | rfl | exact absurd rfl hb) rfl).trans ?_
    pointwise

end Reference

theorem algebraic : Cert.algebraic_ModulationIdeal_ModulationReferenceIdeal := by
  intro m g m' g' _ heq
  refine ⟨(Cert.ModulationIdeal.Gen.dats (F := Ideal) m 0 · |>.arrAt 3 Cert.ModulationIdeal.cfg0.N),
    Cert.ModulationIdeal.Value.run_blocks m g, ?_⟩
  refine (θ_run _ _ _).mono (fun r h c => ?_) (Cert.ModulationReferenceIdeal.Value.run m' g')
  obtain ⟨h0, hk⟩ := h c
  obtain ⟨e0, e1, e2, e3⟩ := heq c
  refine ⟨h0.trans ?_, hk⟩
  refine Eq.trans ?_ (final_result m c).symm
  unfold argC argCC argW argB
  rw [← e0, ← e1, ← e2, ← e3]
  funext i
  unfold result entry
  idx_vars i
  refine (stack_read _ _ i0 i1 i2).trans ?_
  fin_cases i0
  · refine (if_pos rfl).trans ((first_read _ _ _ i1 i2).trans ?_)
    refine congrArg (· + _) (Finset.sum_congr rfl fun d _ => congrArg (· * _) ?_)
    exact (unit_read _ i1 d).trans (congrArg silu (rows_read _ _ i1 d))
  · refine (if_neg (by decide)).trans ((second_read _ _ _ i1 i2).trans ?_)
    refine congrArg (· + _) (Finset.sum_congr rfl fun d _ => congrArg (· * _) ?_)
    exact (unit_read _ i1 d).trans (congrArg silu (rows_read _ _ i1 d))

end Cert.ModClaim

end
-- ==== Proof.lean ====
/-
  The proof of `Cert.Claim`: the claims, conjunct by conjunct.

  The runs of the programs come from the generated modules. The equations are assembled in
  Proof/AttnClaim.lean (the attention), Proof/MlpClaim.lean (the last squared-ReLU layer),
  Proof/FirstClaim.lean (the first squared-ReLU layer), Proof/OutClaim.lean (the output projection),
  Proof/CtxClaim.lean (the context's keys and values) and Proof/ModClaim.lean (the modulations).
-/
module

public import proofs.«01_k».proof.Defs
public import proofs.«01_k».proof.Proof.Gen.Kernel.Frame
public import proofs.«01_k».proof.Proof.Gen.Mlp.Frame
public import proofs.«01_k».proof.Proof.Gen.FirstMlp.Frame
public import proofs.«01_k».proof.Proof.Gen.Out.Frame
public import proofs.«01_k».proof.Proof.Gen.Ctx.Frame
public import proofs.«01_k».proof.Proof.Gen.Modulation.Frame
public import proofs.«01_k».proof.Proof.AttnClaim
public import proofs.«01_k».proof.Proof.MlpClaim
public import proofs.«01_k».proof.Proof.FirstClaim
public import proofs.«01_k».proof.Proof.OutClaim
public import proofs.«01_k».proof.Proof.CtxClaim
public import proofs.«01_k».proof.Proof.ModClaim

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Mlp.Gen.facts,
    Cert.MlpIdeal.Gen.facts, Cert.MlpReferenceIdeal.Gen.facts,
    Cert.FirstMlp.Gen.facts, Cert.FirstMlpIdeal.Gen.facts, Cert.FirstMlpReferenceIdeal.Gen.facts,
    Cert.Out.Gen.facts, Cert.OutIdeal.Gen.facts, Cert.OutReferenceIdeal.Gen.facts,
    Cert.Ctx.Gen.facts, Cert.CtxIdeal.Gen.facts, Cert.CtxReferenceIdeal.Gen.facts,
    Cert.Modulation.Gen.facts, Cert.ModulationIdeal.Gen.facts, Cert.ModulationReferenceIdeal.Gen.facts,
    Cert.Finite.facts,
    fun m g _ => Cert.Kernel.Gen.frame m g,
    fun m g _ => Cert.KernelIdeal.Gen.frame m g,
    fun m g _ => Cert.KernelIdeal.Gen.frame m g,
    Cert.AttnClaim.reference_frame,
    fun m g _ => Cert.AttnClaim.reference_frame m g trivial,
    fun m g _ => Cert.Mlp.Gen.frame m g,
    fun m g _ => Cert.MlpIdeal.Gen.frame m g,
    Cert.MlpClaim.reference_frame,
    fun m g _ => Cert.FirstMlp.Gen.frame m g,
    fun m g _ => Cert.FirstMlpIdeal.Gen.frame m g,
    Cert.FirstClaim.reference_frame,
    fun m g _ => Cert.Out.Gen.frame m g,
    fun m g _ => Cert.OutIdeal.Gen.frame m g,
    Cert.OutClaim.reference_frame,
    fun m g _ => Cert.Ctx.Gen.frame m g,
    fun m g _ => Cert.CtxIdeal.Gen.frame m g,
    Cert.CtxClaim.reference_frame,
    fun m g _ => Cert.Modulation.Gen.frame m g,
    fun m g _ => Cert.ModulationIdeal.Gen.frame m g,
    Cert.ModClaim.reference_frame,
    trivial,
    Cert.AttnClaim.algebraic,
    trivial,
    Cert.MlpClaim.algebraic,
    trivial,
    Cert.FirstClaim.algebraic,
    trivial,
    Cert.OutClaim.algebraic,
    trivial,
    Cert.CtxClaim.algebraic,
    trivial,
    Cert.ModClaim.algebraic⟩

end Cert.Proof

end
